-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 128]⟩ ⟨2, ![1024, 128]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 256]⟩ ⟨2, ![128, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![128, 256]⟩ ⟨2, ![128, 2048]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 2048]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 128]⟩ ⟨2, ![2048, 128]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 128]⟩ ⟨2, ![2048, 128]⟩ 0 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![256, 128]⟩ ⟨2, ![2048, 128]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128 : Shape := ⟨2, ![128, 128]⟩
abbrev S128x256 : Shape := ⟨2, ![128, 256]⟩
abbrev S256x128 : Shape := ⟨2, ![256, 128]⟩
abbrev S1024x128 : Shape := ⟨2, ![1024, 128]⟩
abbrev S3x1024x128 : Shape := ⟨3, ![3, 1024, 128]⟩
abbrev S9x1024x128 : Shape := ⟨3, ![9, 1024, 128]⟩
abbrev S8 : Shape := ⟨1, ![8]⟩
abbrev S54 : Shape := ⟨1, ![54]⟩
abbrev S_ : Shape := ⟨0, ![]⟩
abbrev S1 : Shape := ⟨1, ![1]⟩
abbrev S176x128 : Shape := ⟨2, ![176, 128]⟩
abbrev S176x256 : Shape := ⟨2, ![176, 256]⟩
abbrev S1x176x128 : Shape := ⟨3, ![1, 176, 128]⟩
abbrev S160x128 : Shape := ⟨2, ![160, 128]⟩
abbrev S160x256 : Shape := ⟨2, ![160, 256]⟩
abbrev S1x160x128 : Shape := ⟨3, ![1, 160, 128]⟩

abbrev nBuf : Space → Nat
  | .hbm => 8
  | .vmem => 12
  | .smem => 0
  | _ => 0

abbrev bufTy : (tb : Table) → Fin (tcTables nBuf tb) → BufTy
  | .hbm, ⟨0, _⟩ => ⟨S128x128, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S1024x128, .f32⟩
  | .local _ .vmem, ⟨0, _⟩ => ⟨S128x128, .f32⟩
  | .local _ .vmem, ⟨1, _⟩ => ⟨S128x256, .f32⟩
  | .local _ .vmem, ⟨2, _⟩ => ⟨S256x128, .f32⟩
  | .local _ .vmem, ⟨3, _⟩ => ⟨S128x256, .f32⟩
  | .local _ .vmem, ⟨4, _⟩ => ⟨S256x128, .f32⟩
  | .local _ .vmem, ⟨5, _⟩ => ⟨S128x256, .f32⟩
  | .local _ .vmem, ⟨6, _⟩ => ⟨S256x128, .f32⟩
  | .local _ .vmem, ⟨7, _⟩ => ⟨S1024x128, .f32⟩
  | .local _ .vmem, ⟨8, _⟩ => ⟨S1024x128, .bf16⟩
  | .local _ .vmem, ⟨9, _⟩ => ⟨S3x1024x128, .f32⟩
  | .local _ .vmem, ⟨10, _⟩ => ⟨S9x1024x128, .bf16⟩
  | .local _ .vmem, ⟨11, _⟩ => ⟨S9x1024x128, .bf16⟩
  | _, _ => ⟨S128x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 132 → Bool
  | ⟨i, _⟩ => dmaSemScopedAt i

abbrev sig : RefSig :=
  (ofTc nBuf bufTy 1 132 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v16 : BitVec 32 := Scalar.xori v2 c5_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v19 : BitVec 32 := Scalar.xori v2 c6_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v22 : BitVec 32 := Scalar.xori v2 c7_i32
  let c1_i32_19 : BitVec 32 := 1#32
  let v23 : BitVec 32 := Scalar.muli v22 c1_i32_19
  let v24 : BitVec 32 := Scalar.addi c0_i32_20 v23
  v24.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v28 : BitVec 32 := Scalar.muli v2 c128_i32
  let v29 : Index := Scalar.indexCast v28
  let c0_23 : Index := 0#32
  ![v29.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_26 : BitVec 32 := 128#32
  let v35 : BitVec 32 := Scalar.muli v2 c128_i32_26
  let c0_i32_31 : BitVec 32 := 0#32
  ![v35.toNat, 0]
def k0_dev8 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_24 : BitVec 32 := 1#32
  let v33 : BitVec 32 := Scalar.xori v2 c1_i32_24
  let c1_i32_29 : BitVec 32 := 1#32
  let v36 : BitVec 32 := Scalar.muli v33 c1_i32_29
  let v37 : BitVec 32 := Scalar.addi c0_i32_30 v36
  v37.toNat
def k0_dev9 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_33 : BitVec 32 := 2#32
  let v44 : BitVec 32 := Scalar.xori v2 c2_i32_33
  let c1_i32_38 : BitVec 32 := 1#32
  let v47 : BitVec 32 := Scalar.muli v44 c1_i32_38
  let v48 : BitVec 32 := Scalar.addi c0_i32_39 v47
  v48.toNat
def k0_dev10 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_42 : BitVec 32 := 3#32
  let v55 : BitVec 32 := Scalar.xori v2 c3_i32_42
  let c1_i32_47 : BitVec 32 := 1#32
  let v58 : BitVec 32 := Scalar.muli v55 c1_i32_47
  let v59 : BitVec 32 := Scalar.addi c0_i32_48 v58
  v59.toNat
def k0_dev11 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_51 : BitVec 32 := 4#32
  let v66 : BitVec 32 := Scalar.xori v2 c4_i32_51
  let c1_i32_56 : BitVec 32 := 1#32
  let v69 : BitVec 32 := Scalar.muli v66 c1_i32_56
  let v70 : BitVec 32 := Scalar.addi c0_i32_57 v69
  v70.toNat
def k0_dev12 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_60 : BitVec 32 := 5#32
  let v77 : BitVec 32 := Scalar.xori v2 c5_i32_60
  let c1_i32_65 : BitVec 32 := 1#32
  let v80 : BitVec 32 := Scalar.muli v77 c1_i32_65
  let v81 : BitVec 32 := Scalar.addi c0_i32_66 v80
  v81.toNat
def k0_dev13 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_69 : BitVec 32 := 6#32
  let v88 : BitVec 32 := Scalar.xori v2 c6_i32_69
  let c1_i32_74 : BitVec 32 := 1#32
  let v91 : BitVec 32 := Scalar.muli v88 c1_i32_74
  let v92 : BitVec 32 := Scalar.addi c0_i32_75 v91
  v92.toNat
def k0_dev14 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_78 : BitVec 32 := 7#32
  let v99 : BitVec 32 := Scalar.xori v2 c7_i32_78
  let c1_i32_83 : BitVec 32 := 1#32
  let v102 : BitVec 32 := Scalar.muli v99 c1_i32_83
  let v103 : BitVec 32 := Scalar.addi c0_i32_84 v102
  v103.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_87 : BitVec 32 := 0#32
  let v110 : BitVec 1 := Scalar.cmpi .ne v2 c0_i32_87
  let v111 : BitVec 32 := Scalar.extui v110
  let c0_i32_88 : BitVec 32 := 0#32
  let v112 : BitVec 1 := Scalar.cmpi .ne v111 c0_i32_88
  v112

def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2492 : BitVec 32 := 0#32
  let v2376 : BitVec 32 := Scalar.xori v2 c0_i32_2492
  ![v2376.toNat]
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_89 : BitVec 32 := 1#32
  let v113 : BitVec 1 := Scalar.cmpi .ne v2 c1_i32_89
  let v114 : BitVec 32 := Scalar.extui v113
  let c0_i32_90 : BitVec 32 := 0#32
  let v115 : BitVec 1 := Scalar.cmpi .ne v114 c0_i32_90
  v115

def k0_off4 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2492 : BitVec 32 := 1#32
  let v2376 : BitVec 32 := Scalar.xori v2 c1_i32_2492
  ![v2376.toNat]
def k0_dev15 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_105 : BitVec 32 := 1#32
  let v133 : BitVec 32 := Scalar.xori v2 c1_i32_105
  let c1_i32_110 : BitVec 32 := 1#32
  let v134 : BitVec 32 := Scalar.muli v133 c1_i32_110
  let v135 : BitVec 32 := Scalar.addi c0_i32_111 v134
  v135.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_116 : BitVec 32 := 2#32
  let v144 : BitVec 1 := Scalar.cmpi .ne v2 c2_i32_116
  let v145 : BitVec 32 := Scalar.extui v144
  let c0_i32_117 : BitVec 32 := 0#32
  let v146 : BitVec 1 := Scalar.cmpi .ne v145 c0_i32_117
  v146

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2492 : BitVec 32 := 2#32
  let v2376 : BitVec 32 := Scalar.xori v2 c2_i32_2492
  ![v2376.toNat]
def k0_dev16 (d0 : Dev nD) : Nat :=
  let c0_i32_138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_132 : BitVec 32 := 1#32
  let v164 : BitVec 32 := Scalar.xori v2 c1_i32_132
  let c1_i32_137 : BitVec 32 := 1#32
  let v165 : BitVec 32 := Scalar.muli v164 c1_i32_137
  let v166 : BitVec 32 := Scalar.addi c0_i32_138 v165
  v166.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_142 : BitVec 32 := 3#32
  let v175 : BitVec 1 := Scalar.cmpi .ne v2 c3_i32_142
  let v176 : BitVec 32 := Scalar.extui v175
  let c0_i32_143 : BitVec 32 := 0#32
  let v177 : BitVec 1 := Scalar.cmpi .ne v176 c0_i32_143
  v177

def k0_off6 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2492 : BitVec 32 := 3#32
  let v2376 : BitVec 32 := Scalar.xori v2 c3_i32_2492
  ![v2376.toNat]
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_144 : BitVec 32 := 4#32
  let v178 : BitVec 1 := Scalar.cmpi .ne v2 c4_i32_144
  let v179 : BitVec 32 := Scalar.extui v178
  let c0_i32_145 : BitVec 32 := 0#32
  let v180 : BitVec 1 := Scalar.cmpi .ne v179 c0_i32_145
  v180

def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2492 : BitVec 32 := 4#32
  let v2376 : BitVec 32 := Scalar.xori v2 c4_i32_2492
  ![v2376.toNat]
def k0_dev17 (d0 : Dev nD) : Nat :=
  let c0_i32_166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_160 : BitVec 32 := 3#32
  let v198 : BitVec 32 := Scalar.xori v2 c3_i32_160
  let c1_i32_165 : BitVec 32 := 1#32
  let v199 : BitVec 32 := Scalar.muli v198 c1_i32_165
  let v200 : BitVec 32 := Scalar.addi c0_i32_166 v199
  v200.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_170 : BitVec 32 := 5#32
  let v209 : BitVec 1 := Scalar.cmpi .ne v2 c5_i32_170
  let v210 : BitVec 32 := Scalar.extui v209
  let c0_i32_171 : BitVec 32 := 0#32
  let v211 : BitVec 1 := Scalar.cmpi .ne v210 c0_i32_171
  v211

def k0_off8 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2492 : BitVec 32 := 5#32
  let v2376 : BitVec 32 := Scalar.xori v2 c5_i32_2492
  ![v2376.toNat]
def k0_dev18 (d0 : Dev nD) : Nat :=
  let c0_i32_192 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_186 : BitVec 32 := 3#32
  let v229 : BitVec 32 := Scalar.xori v2 c3_i32_186
  let c1_i32_191 : BitVec 32 := 1#32
  let v230 : BitVec 32 := Scalar.muli v229 c1_i32_191
  let v231 : BitVec 32 := Scalar.addi c0_i32_192 v230
  v231.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_196 : BitVec 32 := 6#32
  let v240 : BitVec 1 := Scalar.cmpi .ne v2 c6_i32_196
  let v241 : BitVec 32 := Scalar.extui v240
  let c0_i32_197 : BitVec 32 := 0#32
  let v242 : BitVec 1 := Scalar.cmpi .ne v241 c0_i32_197
  v242

def k0_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2492 : BitVec 32 := 6#32
  let v2376 : BitVec 32 := Scalar.xori v2 c6_i32_2492
  ![v2376.toNat]
def k0_dev19 (d0 : Dev nD) : Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_212 : BitVec 32 := 4#32
  let v260 : BitVec 32 := Scalar.xori v2 c4_i32_212
  let c1_i32_217 : BitVec 32 := 1#32
  let v261 : BitVec 32 := Scalar.muli v260 c1_i32_217
  let v262 : BitVec 32 := Scalar.addi c0_i32_218 v261
  v262.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_222 : BitVec 32 := 7#32
  let v271 : BitVec 1 := Scalar.cmpi .ne v2 c7_i32_222
  let v272 : BitVec 32 := Scalar.extui v271
  let c0_i32_223 : BitVec 32 := 0#32
  let v273 : BitVec 1 := Scalar.cmpi .ne v272 c0_i32_223
  v273

def k0_off10 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_2492 : BitVec 32 := 7#32
  let v2376 : BitVec 32 := Scalar.xori v2 c7_i32_2492
  ![v2376.toNat]
def k0_dev20 (d0 : Dev nD) : Nat :=
  let c0_i32_244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_238 : BitVec 32 := 4#32
  let v291 : BitVec 32 := Scalar.xori v2 c4_i32_238
  let c1_i32_243 : BitVec 32 := 1#32
  let v292 : BitVec 32 := Scalar.muli v291 c1_i32_243
  let v293 : BitVec 32 := Scalar.addi c0_i32_244 v292
  v293.toNat
def k0_dev21 (d0 : Dev nD) : Nat :=
  let c0_i32_284 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_278 : BitVec 32 := 3#32
  let v329 : BitVec 32 := Scalar.xori v2 c3_i32_278
  let c1_i32_283 : BitVec 32 := 1#32
  let v330 : BitVec 32 := Scalar.muli v329 c1_i32_283
  let v331 : BitVec 32 := Scalar.addi c0_i32_284 v330
  v331.toNat
def k0_dev22 (d0 : Dev nD) : Nat :=
  let c0_i32_326 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_320 : BitVec 32 := 3#32
  let v367 : BitVec 32 := Scalar.xori v2 c3_i32_320
  let c1_i32_325 : BitVec 32 := 1#32
  let v368 : BitVec 32 := Scalar.muli v367 c1_i32_325
  let v369 : BitVec 32 := Scalar.addi c0_i32_326 v368
  v369.toNat
def k0_dev23 (d0 : Dev nD) : Nat :=
  let c0_i32_368 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_362 : BitVec 32 := 4#32
  let v405 : BitVec 32 := Scalar.xori v2 c4_i32_362
  let c1_i32_367 : BitVec 32 := 1#32
  let v406 : BitVec 32 := Scalar.muli v405 c1_i32_367
  let v407 : BitVec 32 := Scalar.addi c0_i32_368 v406
  v407.toNat
def k0_dev24 (d0 : Dev nD) : Nat :=
  let c0_i32_409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_404 : BitVec 32 := 4#32
  let v443 : BitVec 32 := Scalar.xori v2 c4_i32_404
  let c1_i32_408 : BitVec 32 := 1#32
  let v444 : BitVec 32 := Scalar.muli v443 c1_i32_408
  let v445 : BitVec 32 := Scalar.addi c0_i32_409 v444
  v445.toNat
def k0_dev25 (d0 : Dev nD) : Nat :=
  let c0_i32_450 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_445 : BitVec 32 := 1#32
  let v481 : BitVec 32 := Scalar.xori v2 c1_i32_445
  let c1_i32_449 : BitVec 32 := 1#32
  let v482 : BitVec 32 := Scalar.muli v481 c1_i32_449
  let v483 : BitVec 32 := Scalar.addi c0_i32_450 v482
  v483.toNat
def k0_dev26 (d0 : Dev nD) : Nat :=
  let c0_i32_491 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_486 : BitVec 32 := 1#32
  let v519 : BitVec 32 := Scalar.xori v2 c1_i32_486
  let c1_i32_490 : BitVec 32 := 1#32
  let v520 : BitVec 32 := Scalar.muli v519 c1_i32_490
  let v521 : BitVec 32 := Scalar.addi c0_i32_491 v520
  v521.toNat
def k0_dev27 (d0 : Dev nD) : Nat :=
  let c0_i32_531 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_526 : BitVec 32 := 4#32
  let v557 : BitVec 32 := Scalar.xori v2 c4_i32_526
  let c1_i32_530 : BitVec 32 := 1#32
  let v558 : BitVec 32 := Scalar.muli v557 c1_i32_530
  let v559 : BitVec 32 := Scalar.addi c0_i32_531 v558
  v559.toNat
def k0_dev28 (d0 : Dev nD) : Nat :=
  let c0_i32_572 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_567 : BitVec 32 := 4#32
  let v595 : BitVec 32 := Scalar.xori v2 c4_i32_567
  let c1_i32_571 : BitVec 32 := 1#32
  let v596 : BitVec 32 := Scalar.muli v595 c1_i32_571
  let v597 : BitVec 32 := Scalar.addi c0_i32_572 v596
  v597.toNat
def k0_dev29 (d0 : Dev nD) : Nat :=
  let c0_i32_613 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_608 : BitVec 32 := 1#32
  let v633 : BitVec 32 := Scalar.xori v2 c1_i32_608
  let c1_i32_612 : BitVec 32 := 1#32
  let v634 : BitVec 32 := Scalar.muli v633 c1_i32_612
  let v635 : BitVec 32 := Scalar.addi c0_i32_613 v634
  v635.toNat
def k0_dev30 (d0 : Dev nD) : Nat :=
  let c0_i32_654 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_649 : BitVec 32 := 1#32
  let v671 : BitVec 32 := Scalar.xori v2 c1_i32_649
  let c1_i32_653 : BitVec 32 := 1#32
  let v672 : BitVec 32 := Scalar.muli v671 c1_i32_653
  let v673 : BitVec 32 := Scalar.addi c0_i32_654 v672
  v673.toNat
def k0_dev31 (d0 : Dev nD) : Nat :=
  let c0_i32_695 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_690 : BitVec 32 := 3#32
  let v709 : BitVec 32 := Scalar.xori v2 c3_i32_690
  let c1_i32_694 : BitVec 32 := 1#32
  let v710 : BitVec 32 := Scalar.muli v709 c1_i32_694
  let v711 : BitVec 32 := Scalar.addi c0_i32_695 v710
  v711.toNat
def k0_dev32 (d0 : Dev nD) : Nat :=
  let c0_i32_736 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_731 : BitVec 32 := 3#32
  let v747 : BitVec 32 := Scalar.xori v2 c3_i32_731
  let c1_i32_735 : BitVec 32 := 1#32
  let v748 : BitVec 32 := Scalar.muli v747 c1_i32_735
  let v749 : BitVec 32 := Scalar.addi c0_i32_736 v748
  v749.toNat
def k0_dev33 (d0 : Dev nD) : Nat :=
  let c0_i32_783 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_778 : BitVec 32 := 1#32
  let v793 : BitVec 32 := Scalar.xori v2 c1_i32_778
  let c1_i32_782 : BitVec 32 := 1#32
  let v794 : BitVec 32 := Scalar.muli v793 c1_i32_782
  let v795 : BitVec 32 := Scalar.addi c0_i32_783 v794
  v795.toNat
def k0_dev34 (d0 : Dev nD) : Nat :=
  let c0_i32_831 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_826 : BitVec 32 := 1#32
  let v839 : BitVec 32 := Scalar.xori v2 c1_i32_826
  let c1_i32_830 : BitVec 32 := 1#32
  let v840 : BitVec 32 := Scalar.muli v839 c1_i32_830
  let v841 : BitVec 32 := Scalar.addi c0_i32_831 v840
  v841.toNat
def k0_dev35 (d0 : Dev nD) : Nat :=
  let c0_i32_879 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_874 : BitVec 32 := 3#32
  let v885 : BitVec 32 := Scalar.xori v2 c3_i32_874
  let c1_i32_878 : BitVec 32 := 1#32
  let v886 : BitVec 32 := Scalar.muli v885 c1_i32_878
  let v887 : BitVec 32 := Scalar.addi c0_i32_879 v886
  v887.toNat
def k0_dev36 (d0 : Dev nD) : Nat :=
  let c0_i32_927 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_922 : BitVec 32 := 3#32
  let v931 : BitVec 32 := Scalar.xori v2 c3_i32_922
  let c1_i32_926 : BitVec 32 := 1#32
  let v932 : BitVec 32 := Scalar.muli v931 c1_i32_926
  let v933 : BitVec 32 := Scalar.addi c0_i32_927 v932
  v933.toNat
def k0_dev37 (d0 : Dev nD) : Nat :=
  let c0_i32_975 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_970 : BitVec 32 := 4#32
  let v977 : BitVec 32 := Scalar.xori v2 c4_i32_970
  let c1_i32_974 : BitVec 32 := 1#32
  let v978 : BitVec 32 := Scalar.muli v977 c1_i32_974
  let v979 : BitVec 32 := Scalar.addi c0_i32_975 v978
  v979.toNat
def k0_dev38 (d0 : Dev nD) : Nat :=
  let c0_i32_1023 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1018 : BitVec 32 := 4#32
  let v1023 : BitVec 32 := Scalar.xori v2 c4_i32_1018
  let c1_i32_1022 : BitVec 32 := 1#32
  let v1024 : BitVec 32 := Scalar.muli v1023 c1_i32_1022
  let v1025 : BitVec 32 := Scalar.addi c0_i32_1023 v1024
  v1025.toNat
def k0_dev39 (d0 : Dev nD) : Nat :=
  let c0_i32_1063 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1058 : BitVec 32 := 3#32
  let v1061 : BitVec 32 := Scalar.xori v2 c3_i32_1058
  let c1_i32_1062 : BitVec 32 := 1#32
  let v1062 : BitVec 32 := Scalar.muli v1061 c1_i32_1062
  let v1063 : BitVec 32 := Scalar.addi c0_i32_1063 v1062
  v1063.toNat
def k0_dev40 (d0 : Dev nD) : Nat :=
  let c0_i32_1104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1099 : BitVec 32 := 3#32
  let v1099 : BitVec 32 := Scalar.xori v2 c3_i32_1099
  let c1_i32_1103 : BitVec 32 := 1#32
  let v1100 : BitVec 32 := Scalar.muli v1099 c1_i32_1103
  let v1101 : BitVec 32 := Scalar.addi c0_i32_1104 v1100
  v1101.toNat
def k0_dev41 (d0 : Dev nD) : Nat :=
  let c0_i32_1145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1140 : BitVec 32 := 4#32
  let v1137 : BitVec 32 := Scalar.xori v2 c4_i32_1140
  let c1_i32_1144 : BitVec 32 := 1#32
  let v1138 : BitVec 32 := Scalar.muli v1137 c1_i32_1144
  let v1139 : BitVec 32 := Scalar.addi c0_i32_1145 v1138
  v1139.toNat
def k0_dev42 (d0 : Dev nD) : Nat :=
  let c0_i32_1186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1181 : BitVec 32 := 4#32
  let v1175 : BitVec 32 := Scalar.xori v2 c4_i32_1181
  let c1_i32_1185 : BitVec 32 := 1#32
  let v1176 : BitVec 32 := Scalar.muli v1175 c1_i32_1185
  let v1177 : BitVec 32 := Scalar.addi c0_i32_1186 v1176
  v1177.toNat
def k0_dev43 (d0 : Dev nD) : Nat :=
  let c0_i32_1227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1222 : BitVec 32 := 1#32
  let v1213 : BitVec 32 := Scalar.xori v2 c1_i32_1222
  let c1_i32_1226 : BitVec 32 := 1#32
  let v1214 : BitVec 32 := Scalar.muli v1213 c1_i32_1226
  let v1215 : BitVec 32 := Scalar.addi c0_i32_1227 v1214
  v1215.toNat
def k0_dev44 (d0 : Dev nD) : Nat :=
  let c0_i32_1268 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1263 : BitVec 32 := 1#32
  let v1251 : BitVec 32 := Scalar.xori v2 c1_i32_1263
  let c1_i32_1267 : BitVec 32 := 1#32
  let v1252 : BitVec 32 := Scalar.muli v1251 c1_i32_1267
  let v1253 : BitVec 32 := Scalar.addi c0_i32_1268 v1252
  v1253.toNat
def k0_dev45 (d0 : Dev nD) : Nat :=
  let c0_i32_1308 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1303 : BitVec 32 := 4#32
  let v1289 : BitVec 32 := Scalar.xori v2 c4_i32_1303
  let c1_i32_1307 : BitVec 32 := 1#32
  let v1290 : BitVec 32 := Scalar.muli v1289 c1_i32_1307
  let v1291 : BitVec 32 := Scalar.addi c0_i32_1308 v1290
  v1291.toNat
def k0_dev46 (d0 : Dev nD) : Nat :=
  let c0_i32_1349 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1344 : BitVec 32 := 4#32
  let v1327 : BitVec 32 := Scalar.xori v2 c4_i32_1344
  let c1_i32_1348 : BitVec 32 := 1#32
  let v1328 : BitVec 32 := Scalar.muli v1327 c1_i32_1348
  let v1329 : BitVec 32 := Scalar.addi c0_i32_1349 v1328
  v1329.toNat
def k0_dev47 (d0 : Dev nD) : Nat :=
  let c0_i32_1390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1385 : BitVec 32 := 1#32
  let v1365 : BitVec 32 := Scalar.xori v2 c1_i32_1385
  let c1_i32_1389 : BitVec 32 := 1#32
  let v1366 : BitVec 32 := Scalar.muli v1365 c1_i32_1389
  let v1367 : BitVec 32 := Scalar.addi c0_i32_1390 v1366
  v1367.toNat
def k0_dev48 (d0 : Dev nD) : Nat :=
  let c0_i32_1431 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1426 : BitVec 32 := 1#32
  let v1403 : BitVec 32 := Scalar.xori v2 c1_i32_1426
  let c1_i32_1430 : BitVec 32 := 1#32
  let v1404 : BitVec 32 := Scalar.muli v1403 c1_i32_1430
  let v1405 : BitVec 32 := Scalar.addi c0_i32_1431 v1404
  v1405.toNat
def k0_dev49 (d0 : Dev nD) : Nat :=
  let c0_i32_1472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1467 : BitVec 32 := 3#32
  let v1441 : BitVec 32 := Scalar.xori v2 c3_i32_1467
  let c1_i32_1471 : BitVec 32 := 1#32
  let v1442 : BitVec 32 := Scalar.muli v1441 c1_i32_1471
  let v1443 : BitVec 32 := Scalar.addi c0_i32_1472 v1442
  v1443.toNat
def k0_dev50 (d0 : Dev nD) : Nat :=
  let c0_i32_1513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1508 : BitVec 32 := 3#32
  let v1479 : BitVec 32 := Scalar.xori v2 c3_i32_1508
  let c1_i32_1512 : BitVec 32 := 1#32
  let v1480 : BitVec 32 := Scalar.muli v1479 c1_i32_1512
  let v1481 : BitVec 32 := Scalar.addi c0_i32_1513 v1480
  v1481.toNat
def k0_dev51 (d0 : Dev nD) : Nat :=
  let c0_i32_1560 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1555 : BitVec 32 := 1#32
  let v1525 : BitVec 32 := Scalar.xori v2 c1_i32_1555
  let c1_i32_1559 : BitVec 32 := 1#32
  let v1526 : BitVec 32 := Scalar.muli v1525 c1_i32_1559
  let v1527 : BitVec 32 := Scalar.addi c0_i32_1560 v1526
  v1527.toNat
def k0_dev52 (d0 : Dev nD) : Nat :=
  let c0_i32_1608 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1603 : BitVec 32 := 1#32
  let v1571 : BitVec 32 := Scalar.xori v2 c1_i32_1603
  let c1_i32_1607 : BitVec 32 := 1#32
  let v1572 : BitVec 32 := Scalar.muli v1571 c1_i32_1607
  let v1573 : BitVec 32 := Scalar.addi c0_i32_1608 v1572
  v1573.toNat
def k0_dev53 (d0 : Dev nD) : Nat :=
  let c0_i32_1656 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1651 : BitVec 32 := 3#32
  let v1617 : BitVec 32 := Scalar.xori v2 c3_i32_1651
  let c1_i32_1655 : BitVec 32 := 1#32
  let v1618 : BitVec 32 := Scalar.muli v1617 c1_i32_1655
  let v1619 : BitVec 32 := Scalar.addi c0_i32_1656 v1618
  v1619.toNat
def k0_dev54 (d0 : Dev nD) : Nat :=
  let c0_i32_1704 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1699 : BitVec 32 := 3#32
  let v1663 : BitVec 32 := Scalar.xori v2 c3_i32_1699
  let c1_i32_1703 : BitVec 32 := 1#32
  let v1664 : BitVec 32 := Scalar.muli v1663 c1_i32_1703
  let v1665 : BitVec 32 := Scalar.addi c0_i32_1704 v1664
  v1665.toNat
def k0_dev55 (d0 : Dev nD) : Nat :=
  let c0_i32_1752 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1747 : BitVec 32 := 4#32
  let v1709 : BitVec 32 := Scalar.xori v2 c4_i32_1747
  let c1_i32_1751 : BitVec 32 := 1#32
  let v1710 : BitVec 32 := Scalar.muli v1709 c1_i32_1751
  let v1711 : BitVec 32 := Scalar.addi c0_i32_1752 v1710
  v1711.toNat
def k0_dev56 (d0 : Dev nD) : Nat :=
  let c0_i32_1800 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1795 : BitVec 32 := 4#32
  let v1755 : BitVec 32 := Scalar.xori v2 c4_i32_1795
  let c1_i32_1799 : BitVec 32 := 1#32
  let v1756 : BitVec 32 := Scalar.muli v1755 c1_i32_1799
  let v1757 : BitVec 32 := Scalar.addi c0_i32_1800 v1756
  v1757.toNat
def k0_dev57 (d0 : Dev nD) : Nat :=
  let c0_i32_1840 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1835 : BitVec 32 := 3#32
  let v1793 : BitVec 32 := Scalar.xori v2 c3_i32_1835
  let c1_i32_1839 : BitVec 32 := 1#32
  let v1794 : BitVec 32 := Scalar.muli v1793 c1_i32_1839
  let v1795 : BitVec 32 := Scalar.addi c0_i32_1840 v1794
  v1795.toNat
def k0_dev58 (d0 : Dev nD) : Nat :=
  let c0_i32_1881 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1876 : BitVec 32 := 3#32
  let v1831 : BitVec 32 := Scalar.xori v2 c3_i32_1876
  let c1_i32_1880 : BitVec 32 := 1#32
  let v1832 : BitVec 32 := Scalar.muli v1831 c1_i32_1880
  let v1833 : BitVec 32 := Scalar.addi c0_i32_1881 v1832
  v1833.toNat
def k0_dev59 (d0 : Dev nD) : Nat :=
  let c0_i32_1922 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1917 : BitVec 32 := 4#32
  let v1869 : BitVec 32 := Scalar.xori v2 c4_i32_1917
  let c1_i32_1921 : BitVec 32 := 1#32
  let v1870 : BitVec 32 := Scalar.muli v1869 c1_i32_1921
  let v1871 : BitVec 32 := Scalar.addi c0_i32_1922 v1870
  v1871.toNat
def k0_dev60 (d0 : Dev nD) : Nat :=
  let c0_i32_1963 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1958 : BitVec 32 := 4#32
  let v1907 : BitVec 32 := Scalar.xori v2 c4_i32_1958
  let c1_i32_1962 : BitVec 32 := 1#32
  let v1908 : BitVec 32 := Scalar.muli v1907 c1_i32_1962
  let v1909 : BitVec 32 := Scalar.addi c0_i32_1963 v1908
  v1909.toNat
def k0_dev61 (d0 : Dev nD) : Nat :=
  let c0_i32_2004 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1999 : BitVec 32 := 1#32
  let v1945 : BitVec 32 := Scalar.xori v2 c1_i32_1999
  let c1_i32_2003 : BitVec 32 := 1#32
  let v1946 : BitVec 32 := Scalar.muli v1945 c1_i32_2003
  let v1947 : BitVec 32 := Scalar.addi c0_i32_2004 v1946
  v1947.toNat
def k0_dev62 (d0 : Dev nD) : Nat :=
  let c0_i32_2045 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2040 : BitVec 32 := 1#32
  let v1983 : BitVec 32 := Scalar.xori v2 c1_i32_2040
  let c1_i32_2044 : BitVec 32 := 1#32
  let v1984 : BitVec 32 := Scalar.muli v1983 c1_i32_2044
  let v1985 : BitVec 32 := Scalar.addi c0_i32_2045 v1984
  v1985.toNat
def k0_dev63 (d0 : Dev nD) : Nat :=
  let c0_i32_2085 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2080 : BitVec 32 := 4#32
  let v2021 : BitVec 32 := Scalar.xori v2 c4_i32_2080
  let c1_i32_2084 : BitVec 32 := 1#32
  let v2022 : BitVec 32 := Scalar.muli v2021 c1_i32_2084
  let v2023 : BitVec 32 := Scalar.addi c0_i32_2085 v2022
  v2023.toNat
def k0_dev64 (d0 : Dev nD) : Nat :=
  let c0_i32_2126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2121 : BitVec 32 := 4#32
  let v2059 : BitVec 32 := Scalar.xori v2 c4_i32_2121
  let c1_i32_2125 : BitVec 32 := 1#32
  let v2060 : BitVec 32 := Scalar.muli v2059 c1_i32_2125
  let v2061 : BitVec 32 := Scalar.addi c0_i32_2126 v2060
  v2061.toNat
def k0_dev65 (d0 : Dev nD) : Nat :=
  let c0_i32_2167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2162 : BitVec 32 := 1#32
  let v2097 : BitVec 32 := Scalar.xori v2 c1_i32_2162
  let c1_i32_2166 : BitVec 32 := 1#32
  let v2098 : BitVec 32 := Scalar.muli v2097 c1_i32_2166
  let v2099 : BitVec 32 := Scalar.addi c0_i32_2167 v2098
  v2099.toNat
def k0_dev66 (d0 : Dev nD) : Nat :=
  let c0_i32_2208 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2203 : BitVec 32 := 1#32
  let v2135 : BitVec 32 := Scalar.xori v2 c1_i32_2203
  let c1_i32_2207 : BitVec 32 := 1#32
  let v2136 : BitVec 32 := Scalar.muli v2135 c1_i32_2207
  let v2137 : BitVec 32 := Scalar.addi c0_i32_2208 v2136
  v2137.toNat
def k0_dev67 (d0 : Dev nD) : Nat :=
  let c0_i32_2249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2244 : BitVec 32 := 3#32
  let v2173 : BitVec 32 := Scalar.xori v2 c3_i32_2244
  let c1_i32_2248 : BitVec 32 := 1#32
  let v2174 : BitVec 32 := Scalar.muli v2173 c1_i32_2248
  let v2175 : BitVec 32 := Scalar.addi c0_i32_2249 v2174
  v2175.toNat
def k0_dev68 (d0 : Dev nD) : Nat :=
  let c0_i32_2290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2285 : BitVec 32 := 3#32
  let v2211 : BitVec 32 := Scalar.xori v2 c3_i32_2285
  let c1_i32_2289 : BitVec 32 := 1#32
  let v2212 : BitVec 32 := Scalar.muli v2211 c1_i32_2289
  let v2213 : BitVec 32 := Scalar.addi c0_i32_2290 v2212
  v2213.toNat
abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S1024x128 : Shape := ⟨2, ![1024, 128]⟩
abbrev S128x2048 : Shape := ⟨2, ![128, 2048]⟩
abbrev S2048x128 : Shape := ⟨2, ![2048, 128]⟩
abbrev S1024x2048 : Shape := ⟨2, ![1024, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S128x2048, .f32⟩
  | .hbm, ⟨2, _⟩ => ⟨S128x2048, .f32⟩
  | .hbm, ⟨3, _⟩ => ⟨S128x2048, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S1024x2048, .f32⟩
  | .hbm, ⟨8, _⟩ => ⟨S_, .f32⟩
  | .hbm, ⟨9, _⟩ => ⟨S1024x2048, .f32⟩
  | .hbm, ⟨10, _⟩ => ⟨S1024x2048, .f32⟩
  | .hbm, ⟨11, _⟩ => ⟨S1024x128, .f32⟩
  | .hbm, ⟨12, _⟩ => ⟨S1024x2048, .f32⟩
  | .hbm, ⟨13, _⟩ => ⟨S_, .f32⟩
  | .hbm, ⟨14, _⟩ => ⟨S1024x2048, .f32⟩
  | .hbm, ⟨15, _⟩ => ⟨S1024x2048, .f32⟩
  | .hbm, ⟨16, _⟩ => ⟨S1024x128, .f32⟩
  | .hbm, ⟨17, _⟩ => ⟨S1024x2048, .f32⟩
  | .hbm, ⟨18, _⟩ => ⟨S_, .f32⟩
  | .hbm, ⟨19, _⟩ => ⟨S1024x2048, .f32⟩
  | .hbm, ⟨20, _⟩ => ⟨S1024x2048, .f32⟩
  | .hbm, ⟨21, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Twin.lean ====
module

public import proofs.«01_k».proof.Defs
public import proofs.«01_k».proof.Proof.Gen.Kernel
public import proofs.«01_k».proof.Proof.Gen.KernelIdeal
public import Idealize.ShloMosaic.Lib.Pipeline.Regions

@[expose] public section

noncomputable section

namespace Cert.Mlp

open Idealize.ShloMosaic Idealize.SL.Sem

/-- The kernel's frame claim, stated of the ideal module's text at the bit-exact floats. -/
def sameText [hKernelIdeal : Cert.KernelIdeal.Facts] : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

theorem same_prop : Cert.quiescent_Kernel (hKernel := Cert.Kernel.Gen.facts) = sameText (hKernelIdeal := Cert.KernelIdeal.Gen.facts) := by chain_rfl

end Cert.Mlp

end
-- ==== Proof.Steps.lean ====
/-
The kernel's body as a straight line of STEPS, each a small program over a chunk and an exchange round.

The body is unrolled: eight devices, six row chunks, nine exchange rounds. This module names the steps
(signal a peer, wait at the barrier, broadcast the own block, wait for a block, start a chunk, exchange a chunk, …), each
generic in the chunk `ci` and the round `n`, and proves that the printed body is their sequence.
-/
module

public import proofs.«01_k».proof.Proof.Gen.KernelIdeal
public import Idealize.ShloMosaic.Lib.Pipeline.Regions

@[expose] public section

noncomputable section

namespace Cert.Mlp

open Cert.KernelIdeal Cert.KernelIdeal.Gen
open Idealize.ShloMosaic Idealize.ShloMosaic.TcCoe
open Idealize.SL.Sem

variable {F : FTy → Type} [FloatOps F]

/-! ## The tables -/

/-- How many rows chunk `ci` has, -/
def rows : Fin 6 → ℕ := ![176, 176, 176, 176, 160, 160]
/-- and at which row it starts. -/
def roff : Fin 6 → ℕ := ![0, 176, 352, 528, 704, 864]
/-- The pair of chunks it belongs to: the two exchange along the same schedule. -/
def grp : Fin 6 → Fin 3 := ![0, 0, 1, 1, 2, 2]
/-- The exchange's schedule: the mask each group takes in each of a layer's three rounds. -/
def sched : Fin 3 → Fin 3 → Fin 8 := ![![1, 3, 4], ![3, 4, 1], ![4, 1, 3]]
/-- The layer round `n` belongs to, -/
def lay : Fin 9 → Fin 3 := ![0, 0, 0, 1, 1, 1, 2, 2, 2]
/-- and its place in the layer. -/
def sub : Fin 9 → Fin 3 := ![0, 1, 2, 0, 1, 2, 0, 1, 2]
/-- The mask of round `n` for chunk `ci`: device `c` exchanges with `c` XOR the mask. -/
def mask (n : Fin 9) (ci : Fin 6) : Fin 8 := sched (grp ci) (sub n)
/-- The device at mask `j` from `c`. -/
def peer (c : Dev nD) (j : Fin 8) : Dev nD := ⟨c.val ^^^ j.val, Nat.xor_lt_two_pow (n := 3) c.isLt j.isLt⟩
/-- The semaphore index of round `n` and chunk `ci`. -/
def sidx (n : Fin 9) (ci : Fin 6) : Fin 54 := ⟨n.val * 6 + ci.val, by omega⟩

/-! ## Shapes and evidences -/

abbrev SC (ci : Fin 6) : Shape := ⟨2, ![rows ci, 128]⟩
abbrev SC3 (ci : Fin 6) : Shape := ⟨3, ![1, rows ci, 128]⟩
abbrev SH (ci : Fin 6) : Shape := ⟨2, ![rows ci, 256]⟩

theorem inbX (ci : Fin 6) : ∀ a, (![roff ci, 0] : Fin 2 → ℕ) a + (SC ci).size a ≤ S1024x128.size a := by
  revert ci; decide
theorem inbA (k : Fin 3) (ci : Fin 6) : ∀ a, (![k.val, roff ci, 0] : Fin 3 → ℕ) a + (SC3 ci).size a ≤ S3x1024x128.size a := by
  revert k ci; decide
theorem inbS (n : Fin 9) (ci : Fin 6) : ∀ a, (![n.val, roff ci, 0] : Fin 3 → ℕ) a + (SC3 ci).size a ≤ S9x1024x128.size a := by
  revert n ci; decide
theorem inbB (b : Dev nD) : ∀ a, (![b.val * 128, 0] : Fin 2 → ℕ) a + S128x128.size a ≤ S1024x128.size a := by
  revert b; decide
theorem inb8 (j : Fin 8) : ∀ a, (![j.val] : Fin 1 → ℕ) a + S1.size a ≤ S8.size a := by revert j; decide
theorem inb54 (i : Fin 54) : ∀ a, (![i.val] : Fin 1 → ℕ) a + S1.size a ≤ S54.size a := by revert i; decide

abbrev rX (ci : Fin 6) : Rect S1024x128 := Rect.unit (s := S1024x128) ![roff ci, 0] (SC ci).size (inbX ci)
abbrev rA (k : Fin 3) (ci : Fin 6) : Rect S3x1024x128 := Rect.unit (s := S3x1024x128) ![k.val, roff ci, 0] (SC3 ci).size (inbA k ci)
abbrev rS (n : Fin 9) (ci : Fin 6) : Rect S9x1024x128 := Rect.unit (s := S9x1024x128) ![n.val, roff ci, 0] (SC3 ci).size (inbS n ci)
abbrev rB (b : Dev nD) : Rect S1024x128 := Rect.unit (s := S1024x128) ![b.val * 128, 0] S128x128.size (inbB b)

theorem rS_words (n : Fin 9) (ci : Fin 6) : (rS n ci).WholeWords (EltTy.packing .bf16) := by revert n ci; decide +kernel
theorem rS_packed (n : Fin 9) (ci : Fin 6) : (rS n ci).PackedRows (EltTy.packing .bf16) := by revert n ci; decide +kernel
theorem rB_words (b : Dev nD) : (rB b).WholeWords (EltTy.packing .bf16) := by revert b; decide +kernel
theorem rB_packed (b : Dev nD) : (rB b).PackedRows (EltTy.packing .bf16) := by revert b; decide +kernel

theorem numel_SC (ci : Fin 6) : 0 < (SC ci).numel := by revert ci; decide
theorem numel_SC3 (ci : Fin 6) : 0 < (SC3 ci).numel := by revert ci; decide
theorem casts_32 (ci : Fin 6) : (SC3 ci).ShapeCasts (SC ci) := by revert ci; decide
theorem casts_23 (ci : Fin 6) : (SC ci).ShapeCasts (SC3 ci) := by revert ci; decide
theorem squeezes_C (ci : Fin 6) : (SC3 ci).Squeezes (SC ci) := by revert ci; decide

/-! ## Memrefs and semaphores -/

abbrev xM : Memref sig .tc .vmem S128x128 .f32 := Memref.whole cc0_stg0_0
abbrev oM : Memref sig .tc .vmem S1024x128 .f32 := Memref.whole cc0_stg7_0
abbrev fM : Memref sig .tc .vmem S1024x128 .bf16 := Memref.whole cc0_scratch0
abbrev aM : Memref sig .tc .vmem S3x1024x128 .f32 := Memref.whole cc0_scratch1
abbrev sM : Memref sig .tc .vmem S9x1024x128 .bf16 := Memref.whole cc0_scratch2
abbrev rM : Memref sig .tc .vmem S9x1024x128 .bf16 := Memref.whole cc0_scratch3
/-- The first weights of layer `k`, -/
abbrev wiM : Fin 3 → Memref sig .tc .vmem S128x256 .f32
  | 0 => Memref.whole cc0_stg1_0 | 1 => Memref.whole cc0_stg3_0 | 2 => Memref.whole cc0_stg5_0
/-- and the second. -/
abbrev woM : Fin 3 → Memref sig .tc .vmem S256x128 .f32
  | 0 => Memref.whole cc0_stg2_0 | 1 => Memref.whole cc0_stg4_0 | 2 => Memref.whole cc0_stg6_0

/-- The barrier semaphore, -/
abbrev barS : Sem sig := (SemArray.scalar (sig.barrier 0 rfl) : Sems sig S_).sem
/-- the broadcast's send and receive semaphores at mask `j`, -/
abbrev bsS (j : Fin 8) : DmaSem sig := ((cc0_scratch4.slice (Rect.unit (s := S8) ![j.val] S1.size (inb8 j))).squeeze S_ squeezes_S1_S_ : DmaSems sig S_).sem
abbrev brS (j : Fin 8) : DmaSem sig := ((cc0_scratch5.slice (Rect.unit (s := S8) ![j.val] S1.size (inb8 j))).squeeze S_ squeezes_S1_S_ : DmaSems sig S_).sem
/-- the exchange's at index `i`. -/
abbrev snS (i : Fin 54) : DmaSem sig := ((cc0_scratch6.slice (Rect.unit (s := S54) ![i.val] S1.size (inb54 i))).squeeze S_ squeezes_S1_S_ : DmaSems sig S_).sem
abbrev rvS (i : Fin 54) : DmaSem sig := ((cc0_scratch7.slice (Rect.unit (s := S54) ![i.val] S1.size (inb54 i))).squeeze S_ squeezes_S1_S_ : DmaSems sig S_).sem

/-- Block `b` of the gathered activations: the rows device `b` holds. -/
abbrev fB (b : Dev nD) : Memref sig .tc .vmem S128x128 .bf16 := fM.slice (rB b) (fun _ => rfl)
/-- Chunk `ci` of round `n`'s send buffer, -/
abbrev sC (n : Fin 9) (ci : Fin 6) : Memref sig .tc .vmem (SC ci) .bf16 := (sM.slice (rS n ci) (fun _ => rfl)).squeeze (SC ci) (squeezes_C ci)
/-- and of its receive buffer. -/
abbrev rC (n : Fin 9) (ci : Fin 6) : Memref sig .tc .vmem (SC ci) .bf16 := (rM.slice (rS n ci) (fun _ => rfl)).squeeze (SC ci) (squeezes_C ci)

theorem fB_words (b : Dev nD) : (fB b).view.WordExact := (Memref.isWhole_whole cc0_scratch0).wordExact_slice rfl _ (rB_words b)
theorem sC_words (n : Fin 9) (ci : Fin 6) : (sC n ci).view.WordExact :=
  ((Memref.isWhole_whole cc0_scratch2).wordExact_slice rfl _ (rS_words n ci)).reshape _ _
theorem rC_words (n : Fin 9) (ci : Fin 6) : (rC n ci).view.WordExact :=
  ((Memref.isWhole_whole cc0_scratch3).wordExact_slice rfl _ (rS_words n ci)).reshape _ _

/-! ## The values -/

theorem dot1_wf (ci : Fin 6) : DotDims.WF (SC ci) S128x256 (SH ci) [1] [0] [0] [1] [] [] := by
  revert ci; decide
theorem dot2_wf (ci : Fin 6) : DotDims.WF (SH ci) S256x128 (SC ci) [1] [0] [0] [1] [] [] := by
  revert ci; decide
def dot1 (ci : Fin 6) : DotDims (SC ci) S128x256 (SH ci) where
  lhsContracting := [1]
  rhsContracting := [0]
  lhsNonContracting := [0]
  rhsNonContracting := [1]
  lhsBatch := []
  rhsBatch := []
  wf := dot1_wf ci
def dot2 (ci : Fin 6) : DotDims (SH ci) S256x128 (SC ci) where
  lhsContracting := [1]
  rhsContracting := [0]
  lhsNonContracting := [0]
  rhsNonContracting := [1]
  lhsBatch := []
  rhsBatch := []
  wf := dot2_wf ci

/-- A device's block of activations as it is broadcast: narrowed. -/
def narrow (v : Vec F S128x128 .f32) : FVec F S128x128 .bf16 :=
  shapeCast S128x128 (truncf .bf16 (shapeCast S128x128 v shapeCasts_S128x128_S128x128) bitsLt_bf16_f32) shapeCasts_S128x128_S128x128
/-- One device's share of a layer on a chunk: the chunk times its columns of the first weights, cut at zero, times its rows of the second. -/
def layer (ci : Fin 6) (x : FVec F (SC ci) .f32) (wi : Vec F S128x256 .f32) (wo : Vec F S256x128 .f32) : FVec F (SC ci) .f32 :=
  matmul (dot2 ci) none
    (maximumf (matmul (dot1 ci) none x (shapeCast S128x256 wi shapeCasts_S128x256_S128x256) (constant (SH ci) .f32 0x00000000#32))
      (broadcast (SH ci) (Scalar.ofBits .f32 0x00000000#32 : F .f32)))
    (shapeCast S256x128 wo shapeCasts_S256x128_S256x128) (constant (SC ci) .f32 0x00000000#32)
/-- The first layer's, from the gathered chunk. -/
def layer0 (ci : Fin 6) (x : Vec F (SC ci) .bf16) (wi : Vec F S128x256 .f32) (wo : Vec F S256x128 .f32) : FVec F (SC ci) .f32 :=
  layer ci (extf .f32 x bitsLt_bf16_f32) wi wo
/-- The own partial sum and a received one, added. -/
def join (ci : Fin 6) (a : Vec F (SC3 ci) .f32) (r : Vec F (SC3 ci) .bf16) : FVec F (SC ci) .f32 :=
  addf (shapeCast (SC ci) a (casts_32 ci)) (extf .f32 (shapeCast (SC ci) r (casts_32 ci)) bitsLt_bf16_f32)
def up (ci : Fin 6) (v : FVec F (SC ci) .f32) : FVec F (SC3 ci) .f32 := shapeCast (SC3 ci) v (casts_23 ci)
def upN (ci : Fin 6) (v : FVec F (SC ci) .f32) : FVec F (SC3 ci) .bf16 := shapeCast (SC3 ci) (truncf .bf16 v bitsLt_bf16_f32) (casts_23 ci)

/-! ## The steps -/

abbrev P (F : FTy → Type) := Prog (TpuEff nD τ sig (Elt F) Λ₀ .tc) PUnit

def sigStep (c : Dev nD) (j : Fin 8) : P F := semSignalWord (peer c j) barS 1#32
def barStep : P F := semWaitWord barS 7#32
/-- The own block, narrowed, into its place among the gathered activations. -/
def copyStep (c : Dev nD) : P F := do
  let v : Vec F S128x128 .f32 ← Prog.lift (.load xM (Rect.unit (s := S128x128) ![0, 0] S128x128.size inb_S128x128_S128x128_0_0).toLoadRect (View.loadsAt_vmem h_S128x128))
  let _d : Vec F S128x128 .bf16 ← Prog.lift (.load fM (rB c).toLoadRect (View.loadsAt_vmem h_S128x128))
  Prog.lift (.store fM (rB c) (narrow v) Finset.univ (View.stores_vmem h_S128x128 ((Memref.isWhole_whole cc0_scratch0).storeExact_slice rfl _ (rB_packed c)) (fun _ => rfl)) (.inl rfl))
def bcastStep (c : Dev nD) (j : Fin 8) : P F :=
  Prog.lift (.enqueueDma (fB c) (.remote (Dev.tc (peer c j)) (fB c) (.dma (bsS j))) (.dma (brS j)) (fB_words c) (fB_words c) ⟨⟨rfl, Or.inl rfl⟩, trivial⟩)
def blockStep (c b : Dev nD) : P F :=
  if c ≠ b then Prog.lift (.waitDma2 (brS (peer c b)) (fB b) (fB b) (fB_words b) (fB_words b)) else pure ⟨⟩
/-- Layer `k`'s share `p` of a chunk stored, and its narrowing put in round `n`'s send buffer. -/
def putStep (k : Fin 3) (n : Fin 9) (ci : Fin 6) (p : FVec F (SC ci) .f32) : P F := do
  let _d : Vec F (SC3 ci) .f32 ← Prog.lift (.load aM (rA k ci).toLoadRect (View.loadsAt_vmem (numel_SC3 ci)))
  Prog.lift (.store aM (rA k ci) (up ci p) Finset.univ (View.stores_vmem_bits_univ (numel_SC3 ci) rfl) (.inl rfl))
  let _e : Vec F (SC3 ci) .bf16 ← Prog.lift (.load sM (rS n ci).toLoadRect (View.loadsAt_vmem (numel_SC3 ci)))
  Prog.lift (.store sM (rS n ci) (upN ci p) Finset.univ (View.stores_vmem (numel_SC3 ci) ((Memref.isWhole_whole cc0_scratch2).storeExact_slice rfl _ (rS_packed n ci)) (fun _ => rfl)) (.inl rfl))
def sendStep (c : Dev nD) (n : Fin 9) (ci : Fin 6) : P F :=
  Prog.lift (.enqueueDma (sC n ci) (.remote (Dev.tc (peer c (mask n ci))) (rC n ci) (.dma (snS (sidx n ci)))) (.dma (rvS (sidx n ci)))
    (sC_words n ci) (rC_words n ci) ⟨⟨rfl, Or.inl rfl⟩, trivial⟩)
def waitSendStep (n : Fin 9) (ci : Fin 6) : P F := Prog.lift (.waitDma2 (snS (sidx n ci)) (rC n ci) (sC n ci) (rC_words n ci) (sC_words n ci))
def waitRecvStep (n : Fin 9) (ci : Fin 6) : P F := Prog.lift (.waitDma2 (rvS (sidx n ci)) (sC n ci) (rC n ci) (sC_words n ci) (rC_words n ci))
/-- The first layer's share of chunk `ci`. -/
def startStep (ci : Fin 6) : P F := do
  let x : Vec F (SC ci) .bf16 ← Prog.lift (.load fM (rX ci).toLoadRect (View.loadsAt_vmem (numel_SC ci)))
  let wi : Vec F S128x256 .f32 ← Prog.lift (.load (wiM 0) (Rect.unit (s := S128x256) ![0, 0] S128x256.size inb_S128x256_S128x256_0_0).toLoadRect (View.loadsAt_vmem h_S128x256))
  let wo : Vec F S256x128 .f32 ← Prog.lift (.load (woM 0) (Rect.unit (s := S256x128) ![0, 0] S256x128.size inb_S256x128_S256x128_0_0).toLoadRect (View.loadsAt_vmem h_S256x128))
  putStep 0 0 ci (layer0 ci x wi wo)
/-- What round `n` received joined to the own sum, for the next round of the same layer. -/
def joinStep (n n' : Fin 9) (ci : Fin 6) : P F := do
  let a : Vec F (SC3 ci) .f32 ← Prog.lift (.load aM (rA (lay n) ci).toLoadRect (View.loadsAt_vmem (numel_SC3 ci)))
  let r : Vec F (SC3 ci) .bf16 ← Prog.lift (.load rM (rS n ci).toLoadRect (View.loadsAt_vmem (numel_SC3 ci)))
  putStep (lay n) n' ci (join ci a r)
/-- What a layer's last round received joined to the own sum, and the next layer's share of that. -/
def layerStep (n n' : Fin 9) (ci : Fin 6) : P F := do
  let a : Vec F (SC3 ci) .f32 ← Prog.lift (.load aM (rA (lay n) ci).toLoadRect (View.loadsAt_vmem (numel_SC3 ci)))
  let r : Vec F (SC3 ci) .bf16 ← Prog.lift (.load rM (rS n ci).toLoadRect (View.loadsAt_vmem (numel_SC3 ci)))
  let wi : Vec F S128x256 .f32 ← Prog.lift (.load (wiM (lay n')) (Rect.unit (s := S128x256) ![0, 0] S128x256.size inb_S128x256_S128x256_0_0).toLoadRect (View.loadsAt_vmem h_S128x256))
  let wo : Vec F S256x128 .f32 ← Prog.lift (.load (woM (lay n')) (Rect.unit (s := S256x128) ![0, 0] S256x128.size inb_S256x128_S256x128_0_0).toLoadRect (View.loadsAt_vmem h_S256x128))
  putStep (lay n') n' ci (layer ci (join ci a r) wi wo)
/-- The last sum, into the result. -/
def outStep (ci : Fin 6) : P F := do
  let a : Vec F (SC3 ci) .f32 ← Prog.lift (.load aM (rA 2 ci).toLoadRect (View.loadsAt_vmem (numel_SC3 ci)))
  let r : Vec F (SC3 ci) .bf16 ← Prog.lift (.load rM (rS 8 ci).toLoadRect (View.loadsAt_vmem (numel_SC3 ci)))
  let _d : Vec F (SC ci) .f32 ← Prog.lift (.load oM (rX ci).toLoadRect (View.loadsAt_vmem (numel_SC ci)))
  Prog.lift (.store oM (rX ci) (join ci a r) Finset.univ (View.stores_vmem_bits_univ (numel_SC ci) rfl) (.inl rfl))
def waitBcastStep (c : Dev nD) (j : Fin 8) : P F := Prog.lift (.waitDma2 (bsS j) (fB c) (fB c) (fB_words c) (fB_words c))

/-! ## The sequence -/

/-- The masks a device signals and broadcasts along, in program order. -/
def masks : List (Fin 8) := [1, 2, 3, 4, 5, 6, 7]
def chunks : List (Fin 6) := [0, 1, 2, 3, 4, 5]

/-- The blocks waited for just before chunk `ci` starts. -/
def blocksAt : Fin 6 → List (Dev nD) := ![[0, 1], [2], [3, 4], [5], [6], [7]]

/-- What is prepared after round `n < 8` of a chunk: the next layer's share after a layer's last round, the joined sum otherwise. -/
def nextStep (n : Fin 8) (ci : Fin 6) : P F :=
  if sub n.castSucc = 2 then layerStep n.castSucc n.succ ci else joinStep n.castSucc n.succ ci

def startSeq (c : Dev nD) (ci : Fin 6) : List (P F) := (blocksAt ci).map (blockStep c) ++ [startStep ci, sendStep c 0 ci]
/-- Round `n < 8` of a chunk: wait for its exchange, prepare and send the next. -/
def exchSeq (c : Dev nD) (n : Fin 8) (ci : Fin 6) : List (P F) :=
  [waitSendStep n.castSucc ci, waitRecvStep n.castSucc ci, nextStep n ci, sendStep c n.succ ci]
def lastSeq (ci : Fin 6) : List (P F) := [waitSendStep 8 ci, waitRecvStep 8 ci, outStep ci]

def steps (c : Dev nD) : List (P F) :=
  masks.map (sigStep c) ++ [barStep, copyStep c] ++ masks.map (bcastStep c)
    ++ chunks.flatMap (startSeq c)
    ++ ([0, 1, 2, 3, 4, 5, 6, 7] : List (Fin 8)).flatMap (fun n => chunks.flatMap (exchSeq c n))
    ++ chunks.flatMap lastSeq
    ++ masks.map (waitBcastStep c)

/-- The printed body, at the buffers the launch calls it with. -/
abbrev body : P F :=
  cc0_body xM (Memref.isWhole_whole _) (wiM 0) (Memref.isWhole_whole _) (woM 0) (Memref.isWhole_whole _) (wiM 1) (Memref.isWhole_whole _)
    (woM 1) (Memref.isWhole_whole _) (wiM 2) (Memref.isWhole_whole _) (woM 2) (Memref.isWhole_whole _) oM (Memref.isWhole_whole _)
    fM (Memref.isWhole_whole _) aM (Memref.isWhole_whole _) sM (Memref.isWhole_whole _) rM (Memref.isWhole_whole _)
    cc0_scratch4 cc0_scratch5 cc0_scratch6 cc0_scratch7

/-- What follows the first operation of a program that reads the device's number. -/
def afterDev (p : P F) (c : Dev nD) : P F := match p with
  | .op .deviceId k => k c
  | _ => pure ⟨⟩

theorem body_dev : (body : P F) = .op .deviceId (afterDev body) := by chain_rfl

theorem after_0 : afterDev (body : P F) 0 = Pipeline.chain (steps 0) := by chain_rfl
theorem after_1 : afterDev (body : P F) 1 = Pipeline.chain (steps 1) := by chain_rfl
theorem after_2 : afterDev (body : P F) 2 = Pipeline.chain (steps 2) := by chain_rfl
theorem after_3 : afterDev (body : P F) 3 = Pipeline.chain (steps 3) := by chain_rfl
theorem after_4 : afterDev (body : P F) 4 = Pipeline.chain (steps 4) := by chain_rfl
theorem after_5 : afterDev (body : P F) 5 = Pipeline.chain (steps 5) := by chain_rfl
theorem after_6 : afterDev (body : P F) 6 = Pipeline.chain (steps 6) := by chain_rfl
theorem after_7 : afterDev (body : P F) 7 = Pipeline.chain (steps 7) := by chain_rfl

/-- The printed body reads the device's number, then runs its steps. -/
theorem body_eq : (body : P F) = .op .deviceId (fun c => Pipeline.chain (steps c)) := by
  rw [body_dev]
  congr 1
  funext c
  fin_cases c
  exacts [after_0, after_1, after_2, after_3, after_4, after_5, after_6, after_7]

end Cert.Mlp

end
-- ==== Proof.Base.lean ====
/-
Sequences of steps in the program logic, and ownership of a slice of a buffer that a rank-one axis was squeezed out of.

`tr C c p P Q` says device `c` runs `p` from `P` to `Q` beside a persistent context `C`; `trL` the same of a sequence.
-/
module

public import proofs.«01_k».proof.Proof.Steps
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.MemrefSat
public import Idealize.ShloMosaic.Lib.Tactic

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Iterated separating conjunctions, taken apart -/

section BigSep

variable {M : Type} [URA M] {ι : Type}

theorem bs_erase [DecidableEq ι] {s : Finset ι} {i : ι} (hi : i ∈ s) (Φ : ι → sProp M) : bigSep s Φ = iprop(Φ i ∗ bigSep (s.erase i) Φ) :=
  bigSep_erase hi
theorem bs_split [Fintype ι] [DecidableEq ι] (i : ι) (Φ : ι → sProp M) :
    bigSep Finset.univ Φ = iprop(Φ i ∗ bigSep (Finset.univ.erase i) Φ) := bigSep_univ_split i
theorem bs_insert [DecidableEq ι] {s : Finset ι} {i : ι} (hi : i ∉ s) (Φ : ι → sProp M) : bigSep (insert i s) Φ = iprop(Φ i ∗ bigSep s Φ) :=
  bigSep_insert hi
theorem bs_union [DecidableEq ι] {s t : Finset ι} (h : Disjoint s t) (Φ : ι → sProp M) : bigSep (s ∪ t) Φ = iprop(bigSep s Φ ∗ bigSep t Φ) :=
  bigSep_union h
theorem bs_sep (s : Finset ι) (Φ Ψ : ι → sProp M) : bigSep s (fun i => iprop(Φ i ∗ Ψ i)) = iprop(bigSep s Φ ∗ bigSep s Ψ) := bigSep_sep s Φ Ψ
theorem bs_mono {s : Finset ι} {Φ Ψ : ι → sProp M} (h : ∀ i ∈ s, Φ i ⊢ Ψ i) : bigSep s Φ ⊢ bigSep s Ψ := bigSep_mono h

end BigSep

/-! ## The resource algebra: the pipeline library's copy and the exchange's (duties by mask) -/

abbrev UB : Type := URounds (GSem nD τ sig) (Fin 8)
abbrev UU : Type := UR sig nD τ × UB

/-- The assertions. -/
abbrev SP (F : FTy → Type) : Type := sProp (MT nD τ sig Unit (Elt F) ℕ UU ℕ)

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- Device `c` runs `p` to `Q`. -/
abbrev wpc (c : Dev nD) (p : P F) (Q : PUnit → SP F) : SP F :=
  wp frame (wpE (defs₀ (F := F)) 𝒱₀ (c : Thread nD τ) none) Set.univ p Q

/-- Beside `C`, device `c` runs `p` from `A` to `B`. -/
def tr (C : SP F) (c : Dev nD) (p : P F) (A B : SP F) : Prop := iprop(C ∗ A) ⊢ wpc c p (fun _ => B)
/-- Beside `C`, device `c` runs the steps `l` in order from `A` to `B`. -/
def trL (C : SP F) (c : Dev nD) (l : List (P F)) (A B : SP F) : Prop := iprop(C ∗ A) ⊢ wpc c (Pipeline.chain l) (fun _ => B)

section Triples

variable {C : SP F} [BI.Persistent C] {c : Dev nD} {A A' B B' R M : SP F} {p : P F} {l l' : List (P F)}

theorem tr.pre (h : tr C c p A B) (hA : A' ⊢ A) : tr C c p A' B := (sep_mono_right hA).trans h
theorem tr.post (h : tr C c p A B) (hB : B ⊢ B') : tr C c p A B' := h.trans (wp_mono _ _ _ fun _ => hB)
theorem trL.pre (h : trL C c l A B) (hA : A' ⊢ A) : trL C c l A' B := (sep_mono_right hA).trans h
theorem trL.post (h : trL C c l A B) (hB : B ⊢ B') : trL C c l A B' := h.trans (wp_mono _ _ _ fun _ => hB)

theorem tr.frame (h : tr C c p A B) : tr C c p iprop(A ∗ R) iprop(B ∗ R) := by
  unfold tr
  refine BIBase.Entails.trans ?_ (wp_frame_r _ _ _)
  iintro ⟨HC, HA, HR⟩
  isplitl [HC HA]
  · iapply (show iprop(C ∗ A) ⊢ _ from h); isplitl [HC] <;> iassumption
  iexact HR

theorem trL.frame (h : trL C c l A B) : trL C c l iprop(A ∗ R) iprop(B ∗ R) := by
  unfold trL
  refine BIBase.Entails.trans ?_ (wp_frame_r _ _ _)
  iintro ⟨HC, HA, HR⟩
  isplitl [HC HA]
  · iapply (show iprop(C ∗ A) ⊢ _ from h); isplitl [HC] <;> iassumption
  iexact HR

theorem trL_nil : trL (F := F) C c [] A A := by
  unfold trL
  refine BIBase.Entails.trans ?_ (le_wp_ret _ _ _ _ _)
  iintro ⟨-, H⟩; iexact H

theorem trL_cons (h : tr C c p A M) (h' : trL C c l M B) : trL C c (p :: l) A B := by
  unfold trL
  show _ ⊢ wpc c (p >>= fun _ => Pipeline.chain l) _
  unfold wpc
  rw [wp_bind]
  iintro ⟨#HC, HA⟩
  iapply (show iprop(C ∗ wpc c p (fun _ => M)) ⊢ _ from
    (wp_frame_l _ _ _).trans (wp_mono _ _ _ fun _ => h'))
  isplitr; · iexact HC
  iapply (show iprop(C ∗ A) ⊢ _ from h)
  isplitr; · iexact HC
  iexact HA

theorem trL_append (h : trL C c l A M) (h' : trL C c l' M B) : trL C c (l ++ l') A B := by
  have e : (Pipeline.chain (l ++ l') : P F) = Pipeline.chain l >>= fun _ => Pipeline.chain l' := by
    clear h h'
    induction l with
    | nil => rfl
    | cons x xs ih => rw [List.cons_append, Pipeline.chain_cons, ih, Pipeline.chain_cons, bind_assoc]
  unfold trL
  rw [e]; unfold wpc; rw [wp_bind]
  iintro ⟨#HC, HA⟩
  iapply (show iprop(C ∗ wpc c (Pipeline.chain l) (fun _ => M)) ⊢ _ from
    (wp_frame_l _ _ _).trans (wp_mono _ _ _ fun _ => h'))
  isplitr; · iexact HC
  iapply (show iprop(C ∗ A) ⊢ _ from h)
  isplitr; · iexact HC
  iexact HA

/-- One assertion per entry of a list. -/
def sepL {α : Type} (l : List α) (f : α → SP F) : SP F := l.foldr (fun a R => iprop(f a ∗ R)) iprop(emp)

theorem sepL_cons {α : Type} (a : α) (l : List α) (f : α → SP F) : sepL (a :: l) f = iprop(f a ∗ sepL l f) := rfl
theorem sepL_nil {α : Type} (f : α → SP F) : sepL [] f = iprop(emp) := rfl

theorem sepL_eq {α : Type} [DecidableEq α] {l : List α} (hl : l.Nodup) (f : α → SP F) : bigSep l.toFinset f = sepL l f := by
  induction l with
  | nil => rfl
  | cons a l ih =>
    rw [List.toFinset_cons, bs_insert (by rw [List.mem_toFinset]; exact (List.nodup_cons.mp hl).1), ih (List.nodup_cons.mp hl).2]; rfl
theorem sepL_sep {α : Type} (l : List α) (f g : α → SP F) : sepL l (fun a => iprop(f a ∗ g a)) ⊣⊢ iprop(sepL l f ∗ sepL l g) := by
  induction l with
  | nil => exact ⟨by iintro -; isplitl <;> iempintro, by iintro -; iempintro⟩
  | cons a l ih =>
    constructor
    · simp only [sepL_cons]
      iintro ⟨⟨H1, H2⟩, H3⟩
      ihave H := ih.1 $$ H3
      icases H with ⟨H3, H4⟩
      isplitl [H1 H3]; · isplitl [H1] <;> iassumption
      isplitl [H2] <;> iassumption
    · simp only [sepL_cons]
      iintro ⟨⟨H1, H3⟩, H2, H4⟩
      isplitl [H1 H2]; · isplitl [H1] <;> iassumption
      iapply ih.2
      isplitl [H3] <;> iassumption
theorem sepL_mono {α : Type} (l : List α) {f g : α → SP F} (h : ∀ a, f a ⊢ g a) : sepL l f ⊢ sepL l g := by
  induction l with
  | nil => exact BIBase.Entails.of_eq rfl
  | cons a l ih =>
    simp only [sepL_cons]
    iintro ⟨H1, H2⟩
    isplitl [H1]
    · iapply (h a); iexact H1
    · iapply ih; iexact H2

/-- A loop over a list: entry `a` takes `X a` to `Y a`, and `I` of what is left from before `a` to after. -/
theorem trL_map {α : Type} (f : α → P F) (X Y : α → SP F) (I : List α → SP F) (l : List α)
    (h : ∀ a l', a ∈ l → tr C c (f a) iprop(X a ∗ I (a :: l')) iprop(Y a ∗ I l')) :
    trL C c (l.map f) iprop(sepL l X ∗ I l) iprop(sepL l Y ∗ I []) := by
  induction l with
  | nil => exact trL_nil
  | cons a l ih =>
    rw [List.map_cons]
    refine trL_cons (M := iprop((Y a ∗ I l) ∗ sepL l X)) ((h a l List.mem_cons_self).frame.pre ?_)
      (((ih fun b l' hb => h b l' (List.mem_cons_of_mem _ hb)).frame (R := Y a)).pre ?_ |>.post ?_)
    · rw [sepL_cons]; iintro ⟨⟨H1, H2⟩, H3⟩
      isplitl [H1 H3]; · isplitl [H1] <;> iassumption
      iexact H2
    · iintro ⟨⟨H1, H2⟩, H3⟩
      isplitl [H3 H2]; · isplitl [H3] <;> iassumption
      iexact H1
    · rw [sepL_cons]; iintro ⟨⟨H1, H2⟩, H3⟩
      isplitl [H1 H3]; · isplitl [H3] <;> iassumption
      iexact H2

theorem sepL_map {α β : Type} (g : α → β) (l : List α) (f : β → SP F) : sepL (l.map g) f = sepL l fun a => f (g a) := by
  induction l with
  | nil => rfl
  | cons a l ih => rw [List.map_cons, sepL_cons, sepL_cons, ih]

/-- A loop over the numbers below `n`: number `i` takes `X i` to `Y i` and the invariant `J` from `i` to `i + 1`. -/
theorem trL_range (n : ℕ) (f : Fin n → List (P F)) (X Y : Fin n → SP F) (J : Fin (n + 1) → SP F)
    (h : ∀ i, trL C c (f i) iprop(X i ∗ J i.castSucc) iprop(Y i ∗ J i.succ)) :
    trL C c ((List.finRange n).flatMap f) iprop(sepL (List.finRange n) X ∗ J 0) iprop(sepL (List.finRange n) Y ∗ J (Fin.last n)) := by
  induction n with
  | zero => exact trL_nil
  | succ n ih =>
    rw [List.finRange_succ, List.flatMap_cons, List.flatMap_map, sepL_cons, sepL_cons, sepL_map, sepL_map]
    have h0 : trL C c (f 0) iprop(X 0 ∗ J 0) iprop(Y 0 ∗ J (Fin.succ 0)) := h 0
    have ih' := ih (fun i => f i.succ) (fun i => X i.succ) (fun i => Y i.succ) (fun i => J i.succ) (fun i => h i.succ)
    rw [Fin.succ_last] at ih'
    refine trL_append (M := iprop((Y 0 ∗ J (Fin.succ 0)) ∗ sepL (List.finRange n) fun i => X i.succ)) (h0.frame.pre ?_)
      ((ih'.frame (R := Y 0)).pre ?_ |>.post ?_)
    · iintro ⟨⟨H1, H2⟩, H3⟩
      isplitl [H1 H3]; · isplitl [H1] <;> iassumption
      iexact H2
    · iintro ⟨⟨H1, H2⟩, H3⟩
      isplitl [H3 H2]; · isplitl [H3] <;> iassumption
      iexact H1
    · iintro ⟨⟨H1, H2⟩, H3⟩
      isplitl [H1 H3]; · isplitl [H3] <;> iassumption
      iexact H2

end Triples

/-! ## A squeezed slice -/

section Squeeze

variable {c : Dev nD} {s s' : Shape} {e : EltTy} (M : Memref sig .tc .vmem s e) (r : Rect s) (hr : ∀ a, r.stride a = 1)
  (hq : r.shape.Squeezes s')

/-- Loading a rectangle owned as its squeeze gives what the squeeze holds. -/
theorem wp_load_sq (hc : r.shape.ShapeCasts s') {q : PosShare TreeShare} {X : s'.Idx → Elt F e} {hl : M.view.LoadsAt r.toLoadRect}
    {k : (r.shape.Idx → Elt F e) → P F} {Q : PUnit → SP F} :
    owns (c : Thread nD τ) ((M.slice r hr).squeeze s' hq) q X
      ⊢ iprop((∀ w, ⌜shapeCast s' w hc = X⌝ -∗ owns (c : Thread nD τ) ((M.slice r hr).squeeze s' hq) q X -∗ wpc c (k w) Q)
          -∗ wpc c (.op (.load M r.toLoadRect hl) k) Q) := by
  unfold owns
  iintro ⟨%f, %hf, H⟩ Hk
  iapply (wp_load_rect 𝒱₀ (c : Thread nD τ) none Set.univ (m := M) (r := r) (S := (M.access r).set) (q := q) (f := f) (Finset.Subset.refl _)) $$ [H]
  · rw [← View.set_reshape (M.access r) hq.numel_eq]; iexact H
  iintro H
  iapply Hk $$ []
  · ipureintro; exact hf
  iexists f
  isplitr; · ipureintro; exact hf
  rw [← View.set_reshape (M.access r) hq.numel_eq]; iexact H

/-- Storing through a rectangle owned as its squeeze: the squeeze holds what was stored. -/
theorem wp_store_sq (hc : r.shape.ShapeCasts s') {Y X : s'.Idx → Elt F e} {w : r.shape.Idx → Elt F e} (hw : shapeCast s' w hc = X)
    {hx : (M.access r).Stores Finset.univ} {hm : (Finset.univ : Finset r.shape.Idx) = Finset.univ ∨ ∀ a, r.stride a = 1}
    {k : PUnit → P F} {Q : PUnit → SP F} :
    owns (c : Thread nD τ) ((M.slice r hr).squeeze s' hq) fullShare Y
      ⊢ iprop((owns (c : Thread nD τ) ((M.slice r hr).squeeze s' hq) fullShare X -∗ wpc c (k ⟨⟩) Q)
          -∗ wpc c (.op (.store M r w Finset.univ hx hm) k) Q) := by
  unfold owns
  iintro ⟨%f, %hf, H⟩ Hk
  iapply (wp_store 𝒱₀ (c : Thread nD τ) none Set.univ (m := M) (r := r) (Mk := Finset.univ) (S := (M.access r).set) (f := f)
    (Finset.Subset.refl _)) $$ [H]
  · rw [← View.set_reshape (M.access r) hq.numel_eq]; iexact H
  iintro H
  iapply Hk
  iexists ((M.access r).write (Elt F) f w Finset.univ)
  isplitr
  · ipureintro
    rw [← hw]
    show (fun x => ((M.access r).read (Elt F) ((M.access r).write (Elt F) f w Finset.univ)) (Shape.reshapeEquiv hq.numel_eq x)) = _
    rw [View.read_write_univ]; rfl
  rw [← View.set_reshape (M.access r) hq.numel_eq]; iexact H

end Squeeze

end Cert.Mlp

end
-- ==== Proof.Sched.lean ====
/-
The exchange's schedule: which semaphore cells there are, who pays them, and what a payment hands over.

A cell is paid once. A device's barrier cell is paid by its seven peers, each handing over the places the device will write on it;
a send cell hands the source of a copy back; a receive cell hands over the place the copy wrote, with what it holds.
-/
module

public import proofs.«01_k».proof.Proof.Base
public import Idealize.ShloMosaic.Lib.Transfers

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ## The contents -/

/-- What the devices start from: each one's rows of the activations and its columns and rows of the three layers' weights. -/
structure Ins (F : FTy → Type) where
  x : Dev nD → Vec F S128x128 .f32
  wi : Fin 3 → Dev nD → Vec F S128x256 .f32
  wo : Fin 3 → Dev nD → Vec F S256x128 .f32

theorem peer_peer (c : Dev nD) (j : Fin 8) : peer (peer c j) j = c := by revert c j; decide
theorem peer_self (c b : Dev nD) : peer c (peer c b) = b := by revert c b; decide
theorem peer_comm (c : Dev nD) (j : Fin 8) : peer c j = peer j c := by revert c j; decide
theorem peer_ne (c b : Dev nD) (h : c ≠ b) : (peer c b : Fin 8) ≠ 0 := by revert c b; decide
theorem mask_ne (n : Fin 9) (ci : Fin 6) : mask n ci ≠ 0 := by revert n ci; decide

/-- The gathered activations: row `128 b + i` is row `i` of device `b`'s, narrowed. -/
def XF (I : Ins F) : (cc0_scratch0 : Ref sig .tc).ty.Contents (Elt F) :=
  fun (i : S1024x128.Idx) => narrow (I.x ⟨(i 0).val / 128, Nat.div_lt_of_lt_mul (i 0).isLt⟩)
    (fun a => match a with
      | ⟨0, _⟩ => ⟨(i 0).val % 128, Nat.mod_lt _ (by decide)⟩
      | ⟨1, _⟩ => i 1 : S128x128.Idx)

theorem read_XF (I : Ins F) (b : Dev nD) : (fB b).view.read (Elt F) (XF I) = narrow (I.x b) := by
  funext x
  have h0 : ((rB b).emb x 0).val = b.val * 128 + (x 0).val := by rw [Rect.emb_apply]; simp
  have h1 : ((rB b).emb x 1).val = (x 1).val := by rw [Rect.emb_apply]; simp
  have hx0 : (x 0).val < 128 := (x 0).isLt
  show XF I ((rB b).emb x) = _
  unfold XF
  congr 1
  · congr 1
    apply Fin.ext
    show ((rB b).emb x 0).val / 128 = b.val
    omega
  · funext a
    fin_cases a
    · apply Fin.ext
      show ((rB b).emb x 0).val % 128 = (x 0).val
      omega
    · exact Fin.ext h1

/-- A chunk of the gathered activations. -/
def chunkX (I : Ins F) (ci : Fin 6) : Vec F (SC ci) .bf16 := (fM.access (rX ci)).read (Elt F) (XF I)

def narrowC (ci : Fin 6) (v : FVec F (SC ci) .f32) : FVec F (SC ci) .bf16 := truncf .bf16 v bitsLt_bf16_f32
/-- An own partial sum and a received, narrowed one, added. -/
def joinC (ci : Fin 6) (a : FVec F (SC ci) .f32) (r : FVec F (SC ci) .bf16) : FVec F (SC ci) .f32 := addf a (extf .f32 r bitsLt_bf16_f32)
/-- What device `c` puts up for round `n + 1`, from its own sum and what round `n` brought. -/
def nextVal (I : Ins F) (n : Fin 8) (c : Dev nD) (ci : Fin 6) (a : FVec F (SC ci) .f32) (r : FVec F (SC ci) .bf16) : FVec F (SC ci) .f32 :=
  if sub n.castSucc = 2 then layer ci (joinC ci a r) (I.wi (lay n.succ) c) (I.wo (lay n.succ) c) else joinC ci a r

/-- Device `c`'s own sum of chunk `ci` as it enters round `n`. -/
def A (I : Ins F) (n : Fin 9) : Dev nD → ∀ ci : Fin 6, FVec F (SC ci) .f32 :=
  Fin.induction (motive := fun _ => Dev nD → ∀ ci : Fin 6, FVec F (SC ci) .f32)
    (fun c ci => layer0 ci (chunkX I ci) (I.wi 0 c) (I.wo 0 c))
    (fun n a c ci => nextVal I n c ci (a c ci) (narrowC ci (a (peer c (mask n.castSucc ci)) ci))) n

theorem A_zero (I : Ins F) (c : Dev nD) (ci : Fin 6) : A I 0 c ci = layer0 ci (chunkX I ci) (I.wi 0 c) (I.wo 0 c) := rfl
theorem A_succ (I : Ins F) (n : Fin 8) (c : Dev nD) (ci : Fin 6) :
    A I n.succ c ci = nextVal I n c ci (A I n.castSucc c ci) (narrowC ci (A I n.castSucc (peer c (mask n.castSucc ci)) ci)) := by
  unfold A; rw [Fin.induction_succ]

/-- The result's chunk `ci` on device `c`. -/
def outC (I : Ins F) (c : Dev nD) (ci : Fin 6) : FVec F (SC ci) .f32 := joinC ci (A I 8 c ci) (narrowC ci (A I 8 (peer c (mask 8 ci)) ci))

/-! ## The cells -/

/-- A device's cells: the barrier; the broadcast's send and receive cells at a mask; the exchange's at a round and a chunk. -/
abbrev CI : Type := Unit ⊕ (Fin 8 ⊕ Fin 8) ⊕ ((Fin 9 × Fin 6) ⊕ (Fin 9 × Fin 6))
instance decEqCI : DecidableEq CI := inferInstance
set_option synthInstance.maxSize 2000 in
instance decEqOptCI : DecidableEq (Option CI) := inferInstance
instance decEqDevCI : DecidableEq (Dev nD × CI) := instDecidableEqProd
@[match_pattern] abbrev CI.bar : CI := .inl ()
@[match_pattern] abbrev CI.bs (j : Fin 8) : CI := .inr (.inl (.inl j))
@[match_pattern] abbrev CI.br (j : Fin 8) : CI := .inr (.inl (.inr j))
@[match_pattern] abbrev CI.sn (p : Fin 9 × Fin 6) : CI := .inr (.inr (.inl p))
@[match_pattern] abbrev CI.rv (p : Fin 9 × Fin 6) : CI := .inr (.inr (.inr p))

def csem : CI → SemLoc sig
  | .bar => .reg barS
  | .bs j => .dma (bsS j)
  | .br j => .dma (brS j)
  | .sn p => .dma (snS (sidx p.1 p.2))
  | .rv p => .dma (rvS (sidx p.1 p.2))

/-- The cell a semaphore is, if one. -/
def dec : SemLoc sig → Option CI
  | .reg _ => some .bar
  | .dma q =>
    if q.val < 8 then none
    else if q.val < 16 then some (.bs (Fin.ofNat 8 (q.val - 8)))
    else if q.val < 24 then some (.br (Fin.ofNat 8 (q.val - 16)))
    else if q.val < 78 then some (.sn (Fin.ofNat 9 ((q.val - 24) / 6), Fin.ofNat 6 ((q.val - 24) % 6)))
    else some (.rv (Fin.ofNat 9 ((q.val - 78) / 6), Fin.ofNat 6 ((q.val - 78) % 6)))

theorem dec_csem (k : CI) : dec (csem k) = some k := by revert k; decide +kernel

abbrev cell (c : Dev nD) (k : CI) : GSem nD τ sig := ((c : Thread nD τ), csem k)

/-- What a broadcast block counts on a semaphore, -/
def NB : ℕ := (fB 0).view.dmaCredit
/-- and a chunk. -/
def NC (p : Fin 9 × Fin 6) : ℕ := (rC p.1 p.2).view.dmaCredit
theorem NB_eq (b : Dev nD) : (fB b).view.dmaCredit = NB := rfl
theorem NC_eq (n : Fin 9) (ci : Fin 6) : (rC n ci).view.dmaCredit = NC (n, ci) := rfl
theorem NC_send (n : Fin 9) (ci : Fin 6) : (sC n ci).view.dmaCredit = NC (n, ci) := rfl
theorem NB_pos : 0 < NB := View.dmaCredit_pos _ (by decide)
theorem NC_pos (p : Fin 9 × Fin 6) : 0 < NC p := View.dmaCredit_pos _ (numel_SC p.2)

/-! ## What a payment hands over -/

/-- A memref owned on device `c`, whatever it holds. -/
def anyOwn (c : Dev nD) {sp : Space} {s : Shape} {e : EltTy} (M : Memref sig .tc sp s e) : SP F :=
  iprop(∃ X, owns (c : Thread nD τ) M fullShare X)
/-- Share `q` of block `b` of device `c`'s gathered activations, the block in place. -/
def fpts (I : Ins F) (c b : Dev nD) (q : PosShare TreeShare) : SP F :=
  (fB b).view.loc (c : Thread nD τ) ↦[(fB b).view.set]{q} XF I

instance anyOwn_storable (c : Dev nD) {sp : Space} {s : Shape} {e : EltTy} (M : Memref sig .tc sp s e) :
    BI.Storable (upEmb : UEmb _ (MT nD τ sig Unit (Elt F) ℕ UU ℕ)) (anyOwn (F := F) c M) := by unfold anyOwn; infer_instance
instance fpts_storable (I : Ins F) (c b : Dev nD) (q : PosShare TreeShare) :
    BI.Storable (upEmb : UEmb _ (MT nD τ sig Unit (Elt F) ℕ UU ℕ)) (fpts I c b q) := by unfold fpts; infer_instance

/-- The rounds and chunks exchanged along mask `j`. -/
def atMask (j : Fin 8) : Finset (Fin 9 × Fin 6) := Finset.univ.filter fun p => mask p.1 p.2 = j

/-- What the peer at mask `d` gives device `c` at the barrier: the peer's place for `c`'s block, and for each exchange along the mask. -/
def barPay (c : Dev nD) (d : Fin 8) : SP F :=
  iprop(anyOwn (peer c d) (fB c) ∗ bigSep (atMask d) (fun p => anyOwn (peer c d) (rC p.1 p.2)))

instance barPay_storable (c : Dev nD) (d : Fin 8) :
    BI.Storable (upEmb : UEmb _ (MT nD τ sig Unit (Elt F) ℕ UU ℕ)) (barPay (F := F) c d) := by unfold barPay; infer_instance

def cDut : CI → Finset (Fin 8)
  | .bar => masks.toFinset
  | .bs j => if j = 0 then ∅ else {0}
  | .br j => if j = 0 then ∅ else {0}
  | .sn _ => {0}
  | .rv _ => {0}
def cAmt : CI → ℕ
  | .bar => 1
  | .bs _ => NB
  | .br _ => NB
  | .sn p => NC p
  | .rv p => NC p
def cPay (I : Ins F) (c : Dev nD) : CI → Fin 8 → SP F
  | .bar, d => barPay c d
  | .bs j, _ => fpts I c c (shareTok fullShare 8 j)
  | .br j, _ => fpts I c (peer c j) fullShare
  | .sn p, _ => anyOwn c (sC p.1 p.2)
  | .rv p, _ => owns (c : Thread nD τ) (rC p.1 p.2) fullShare (narrowC p.2 (A I p.1 (peer c (mask p.1 p.2)) p.2))

theorem cAmt_pos (k : CI) : 0 < cAmt k := by
  rcases k with ⟨⟩ | (j | j) | (p | p)
  exacts [Nat.one_pos, NB_pos, NB_pos, NC_pos p, NC_pos p]

instance cPay_storable (I : Ins F) (c : Dev nD) (k : CI) (d : Fin 8) :
    BI.Storable (upEmb : UEmb _ (MT nD τ sig Unit (Elt F) ℕ UU ℕ)) (cPay I c k d) := by
  rcases k with ⟨⟩ | (j | j) | (p | p) <;> (dsimp only [cPay]; infer_instance)

/-- The schedule: one round. -/
def Rd (I : Ins F) : Rounds.Schedule (GSem nD τ sig) (Fin 8) (MT nD τ sig Unit (Elt F) ℕ UU ℕ) where
  duties g r := if r = 0 ∧ g.1.2 = .tc then (dec g.2).elim ∅ cDut else ∅
  unitless _ := False
  amount g _ _ := (dec g.2).elim 1 cAmt
  payload g _ d := (dec g.2).elim iprop(emp) (fun k => cPay I g.1.1 k d)
  amount_pos g _ _ _ := by
    cases h : dec g.2 with
    | none => exact Nat.one_pos
    | some k => exact cAmt_pos k

instance Rd_storable (I : Ins F) (g : GSem nD τ sig) (r : ℕ) (d : Fin 8) :
    BI.Storable (upEmb : UEmb _ (MT nD τ sig Unit (Elt F) ℕ UU ℕ)) ((Rd I).payload g r d) := by
  show BI.Storable upEmb ((dec g.2).elim iprop(emp) (fun k => cPay I g.1.1 k d))
  cases h : dec g.2 with
  | none => show BI.Storable upEmb iprop(emp); infer_instance
  | some k => show BI.Storable upEmb (cPay I g.1.1 k d); infer_instance

section Sched
variable (I : Ins F) (c : Dev nD) (k : CI)

theorem duties_cell : (Rd I).duties (cell c k) 0 = cDut k := by
  show (if 0 = 0 ∧ (c : Thread nD τ).2 = .tc then (dec (csem k)).elim ∅ cDut else ∅) = _
  rw [if_pos ⟨rfl, rfl⟩, dec_csem]; rfl
theorem duties_later (g : GSem nD τ sig) : ∀ r, 1 ≤ r → (Rd I).duties g r = ∅ :=
  fun r hr => if_neg fun h => by omega
theorem amount_cell (d : Fin 8) : (Rd I).amount (cell c k) 0 d = cAmt k := by
  show (dec (csem k)).elim 1 cAmt = _
  rw [dec_csem]; rfl
theorem payload_cell (d : Fin 8) : (Rd I).payload (cell c k) 0 d = cPay I c k d := by
  show (dec (csem k)).elim iprop(emp) (fun k => cPay I c k d) = _
  rw [dec_csem]; rfl
theorem expect_cell : (Rd I).expect (cell c k) 0 = (cDut k).card * cAmt k := by
  unfold Schedule.expect Schedule.amountOf
  rw [duties_cell, Finset.sum_congr rfl fun d _ => amount_cell I c k d, Finset.sum_const, smul_eq_mul]
theorem rest_cell : bigSep ((Rd I).duties (cell c k) 0 \ ∅) (fun d => (Rd I).payload (cell c k) 0 d) = bigSep (cDut k) (cPay I c k) := by
  rw [Finset.sdiff_empty, duties_cell]
  exact bigSep_congr fun d _ => payload_cell I c k d

end Sched

/-! ## Levels, and what is owed -/

def L (g : GSem nD τ sig) : Finset Unit := if g.1.2 = .tc then {()} else ∅
/-- A cell's level, above those waited for before it is paid. -/
def cLev : CI → ℕ
  | .bar => 1
  | .bs _ => 0
  | .br _ => 2
  | .sn _ => 0
  | .rv p => 3 + p.1.val
def lv (g : GSem nD τ sig) (_ : Unit) : ℕ := (dec g.2).elim 0 cLev

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CI) : lv (cell c k) () = cLev k := by unfold lv; rw [dec_csem]; rfl

/-- Payments still to make, the next one first: a cell of a device and the amount. -/
abbrev Owed : Type := List ((Dev nD × CI) × ℕ)
def tot : Owed → CellTallies nD τ sig Unit
  | [] => 0
  | x :: l => tot l + tallyAt (cell x.1.1 x.1.2) () x.2

theorem tot_pos {l : Owed} {g : GSem nD τ sig} {u : Unit} (h : 0 < tot l g u) : ∃ x ∈ l, g = cell x.1.1 x.1.2 := by
  induction l with
  | nil => exact absurd h (Nat.lt_irrefl 0)
  | cons x l ih =>
    unfold tot at h
    rw [Pi.add_apply, Finsupp.add_apply, tallyAt_apply] at h
    by_cases hx : g = cell x.1.1 x.1.2
    · exact ⟨x, List.mem_cons_self, hx⟩
    · rw [if_neg (fun h' => hx h'.1), add_zero] at h
      obtain ⟨y, hy, e⟩ := ih h
      exact ⟨y, List.mem_cons_of_mem _ hy, e⟩

/-- A device may wait on a cell below everything it still owes. -/
theorem mayWait (c : Dev nD) (sm : SemLoc sig) (l : Owed) (n : ℕ) (hw : lv ((c : Thread nD τ), sm) () ≤ n) (hl : ∀ x ∈ l, n < cLev x.1.2) :
    (levAts L lv : SP F) ⊢ MayWait (c : Thread nD τ) sm () (tot l) :=
  MayOwe.of_cut (L := L) (lev := lv) n
    (fun p hp => by rw [Finset.mem_singleton.mp hp, L_tc]; exact Finset.mem_singleton_self _)
    (fun g u hg => by obtain ⟨x, -, rfl⟩ := tot_pos hg; rw [L_tc]; exact Finset.mem_singleton_self _)
    (fun p hp => by rw [Finset.mem_singleton.mp hp]; exact hw)
    (fun g u hg => by obtain ⟨x, hx, rfl⟩ := tot_pos hg; have := lv_cell x.1.1 x.1.2; rw [this]; exact hl x hx)

/-- Device `c`'s payment at the barrier along mask `j`, of its block along mask `j`, of its chunk in a round. -/
def barX (c : Dev nD) (j : Fin 8) : (Dev nD × CI) × ℕ := ((peer c j, .bar), 1)
def brX (c : Dev nD) (j : Fin 8) : (Dev nD × CI) × ℕ := ((peer c j, .br j), NB)
def rvX (c : Dev nD) (p : Fin 9 × Fin 6) : (Dev nD × CI) × ℕ := ((peer c (mask p.1 p.2), .rv p), NC p)

/-- Everything that device `c` owes at the start, in program order. -/
def sends : List (Fin 9 × Fin 6) :=
  chunks.map (fun ci => ((0 : Fin 9), ci)) ++ ([0, 1, 2, 3, 4, 5, 6, 7] : List (Fin 8)).flatMap fun n => chunks.map fun ci => (n.succ, ci)
def owed₀ (c : Dev nD) : Owed := masks.map (barX c) ++ (masks.map (brX c) ++ sends.map (rvX c))

/-- Device `c` owes what `l` lists. -/
def ow (c : Dev nD) (l : Owed) : SP F := iprop(∃ W, owes (c : Thread nD τ) (tot l) W)

/-! ## The invariants, at hand throughout -/

variable (I : Ins F) (K : Dev nD × CI → ℕ)

/-- Every cell's invariant, and that its round has begun. -/
def recAt (p : Dev nD × CI) : SP F := iprop(cellInv ER (Rd I) (K p) (cell p.1 p.2) ∗ reached ER (cell p.1 p.2) 0)
def ctx : SP F := iprop(bigSep Finset.univ (recAt I K) ∗ levAts L lv)

instance recAt_persistent (p : Dev nD × CI) : BI.Persistent (recAt I K p) := by unfold recAt; infer_instance
instance ctx_persistent : BI.Persistent (ctx I K) := by unfold ctx; infer_instance

theorem ctx_at (c : Dev nD) (k : CI) : ctx I K ⊢ recAt I K (c, k) := by
  unfold ctx
  iintro ⟨H, -⟩
  iapply (show bigSep Finset.univ (recAt I K) ⊢ recAt I K (c, k) from bigSep_elim (Finset.mem_univ (c, k))); iexact H
theorem ctx_inv (c : Dev nD) (k : CI) : ctx I K ⊢ cellInv ER (Rd I) (K (c, k)) (cell c k) := by
  refine (ctx_at I K c k).trans ?_
  unfold recAt; iintro ⟨H, -⟩; iexact H
theorem ctx_reached (c : Dev nD) (k : CI) : ctx I K ⊢ reached ER (cell c k) 0 := by
  refine (ctx_at I K c k).trans ?_
  unfold recAt; iintro ⟨-, H⟩; iexact H
theorem ctx_lev : ctx I K ⊢ levAts L lv := by unfold ctx; iintro ⟨-, H⟩; iexact H

end Cert.Mlp

end
-- ==== Proof.Moves.lean ====
/-
The communication steps: a signal, a wait on a cell, a broadcast's copy and an exchange's copy.
-/
module

public import proofs.«01_k».proof.Proof.Sched

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] (I : Ins F) (K : Dev nD × CI → ℕ)

/-- A cell at the start of its only round. -/
abbrev at0 (c : Dev nD) (k : CI) : SP F := atPos ER (cell c k) 0 ∅ 0
/-- The right to pay duty `d` of a cell. -/
abbrev tok0 (c : Dev nD) (k : CI) (d : Fin 8) : SP F := dutyTok ER (cell c k) 0 d
/-- That a cell will be paid `n`. -/
abbrev crd (c : Dev nD) (k : CI) (n : ℕ) : SP F := cred (tallyAt (cell c k) () n)
/-- A cell's semaphore back at zero. -/
abbrev zero (c : Dev nD) (k : CI) : SP F := semVal (cell c k) 0

/-- A signal along mask `j`: the places for the peer's copies, and its block, go to the peer. -/
theorem sig_spec (c : Dev nD) (j : Fin 8) (hj : j ∈ masks) (l : Owed) :
    tr (ctx I K) c (sigStep c j) iprop((tok0 (peer c j) .bar j ∗ barPay (peer c j) j) ∗ ow c (barX c j :: l)) (ow c l) := by
  unfold tr sigStep ow wpc
  simp only [semSignalWord, Prog.lift, Prog.bind_op, Prog.bind_ret, Prog.pure_eq_ret]
  iintro ⟨#HC, ⟨Ht, Hp⟩, ⟨%W, HO⟩⟩
  iapply (Rounds.wp_signal 𝒱₀ ER (Rd I) (c : Thread nD τ) none (dst := (peer c j : Thread nD τ)) (κ := K (peer c j, .bar))
      (d := j) (by rw [show ((peer c j : Thread nD τ), SemLoc.reg barS) = cell (peer c j) .bar from rfl, duties_cell]; exact List.mem_toFinset.mpr hj)
      ((amount_cell I (peer c j) .bar j).trans (by decide)) () (tot l) rfl) $$ [HO Ht Hp]
  · isplitr; · iapply (ctx_inv I K (peer c j) .bar); iexact HC
    isplitl [HO]; · iexact HO
    isplitl [Ht]; · iexact Ht
    isplitl [Hp]; · rw [show ((peer c j : Thread nD τ), SemLoc.reg barS) = cell (peer c j) .bar from rfl, payload_cell]; dsimp only [cPay]; iexact Hp
    iapply (ctx_reached I K (peer c j) .bar); iexact HC
  iintro HO
  rw [wp_ret]; imodintro
  iexists W; iexact HO

/-- A wait for a cell's whole round: the round's payments come, and the cell closes at zero. -/
theorem wait_spec (c : Dev nD) (k : CI) {w : TpuEff nD τ sig (Elt F) Λ₀ .tc PUnit} {k' : ℕ}
    (hw : ∀ Q : PUnit → SP F, wpE (defs₀ (F := F)) 𝒱₀ (c : Thread nD τ) none Set.univ w Q = waitSpec (c : Thread nD τ) Set.univ (csem k) k' Q)
    (hk : k' = (cDut k).card * cAmt k) (l : Owed) (hl : ∀ x ∈ l, cLev k < cLev x.1.2) :
    tr (ctx I K) c (Prog.lift w) iprop((crd c k k' ∗ at0 c k) ∗ ow c l)
      iprop((zero c k ∗ bigSep (cDut k) (cPay I c k)) ∗ ow c l) := by
  unfold tr ow wpc
  simp only [Prog.lift, Prog.bind_op, Prog.bind_ret, Prog.pure_eq_ret]
  iintro ⟨#HC, ⟨Hc, Hat⟩, ⟨%W, HO⟩⟩
  iapply (Rounds.wp_wait_rest_token 𝒱₀ ER (Rd I) (c : Thread nD τ) none (κ := K (c, k)) hw (Set.mem_univ _) () (O := tot l) (W := W)
      (R := 0) (m := 0) (T := ∅) (by rw [Nat.zero_add]; exact hk.trans (expect_cell I c k).symm)) $$ [Hc HO Hat]
  · isplitr; · iapply (ctx_inv I K c k); iexact HC
    isplitl [Hc]; · iexact Hc
    isplitl [HO]; · iexact HO
    isplitr
    · iapply (mayWait c (csem k) l (cLev k) (le_of_eq (lv_cell c k)) hl)
      iapply (ctx_lev I K); iexact HC
    iexact Hat
  iintro ⟨HO, Hat, -, Hpay⟩
  ihave Hp := (BIBase.Entails.of_eq (rest_cell I c k)) $$ Hpay
  rw [wp_ret]
  imod (Rounds.cell_close ER (Rd I) (Set.mem_univ (K (c, k))) (fun h => h) (R := 0 + 1) (duties_later I (cell c k))) $$ [Hat] with Hz
  · isplitr; · iapply (ctx_inv I K c k); iexact HC
    iexact Hat
  imodintro
  isplitl [Hz Hp]
  · isplitl [Hz]; · iexact Hz
    iexact Hp
  iexists _; iexact HO

/-- The wait at the barrier: every peer's places come. -/
theorem bar_spec (c : Dev nD) (l : Owed) (hl : ∀ x ∈ l, 1 < cLev x.1.2) :
    tr (ctx I K) c barStep iprop((crd c .bar 7 ∗ at0 c .bar) ∗ ow c l) iprop((zero c .bar ∗ sepL masks (barPay c)) ∗ ow c l) := by
  have h := wait_spec I K c .bar (w := .semWait barS 7) (k' := 7) (wpE_semWait_eq 𝒱₀ (c : Thread nD τ) none Set.univ) (by decide) l hl
  rw [show bigSep (cDut .bar) (cPay I c .bar) = sepL masks (barPay c) from sepL_eq (by decide) _] at h
  exact h

theorem pay_one (c : Dev nD) (k : CI) (hk : cDut k = {0}) : bigSep (cDut k) (cPay I c k) = cPay I c k 0 := by rw [hk, bigSep_singleton]

/-- The wait for a broadcast's source: the lent share of the own block is back. -/
theorem waitBcast_spec (c : Dev nD) (j : Fin 8) (hj : j ∈ masks) :
    tr (ctx I K) c (waitBcastStep c j) iprop((crd c (.bs j) NB ∗ at0 c (.bs j)) ∗ ow c [])
      iprop((zero c (.bs j) ∗ fpts I c c (shareTok fullShare 8 j)) ∗ ow c []) := by
  have hd : cDut (.bs j) = {0} := if_neg (by revert hj; revert j; decide)
  have h := wait_spec I K c (.bs j) (w := .waitDma2 (bsS j) (fB c) (fB c) (fB_words c) (fB_words c)) (k' := NB)
    (wpE_waitDma2_eq 𝒱₀ (c : Thread nD τ) none Set.univ) (by rw [hd]; exact (Nat.one_mul _).symm) [] (fun x hx => absurd hx List.not_mem_nil)
  rw [pay_one I c _ hd] at h
  exact h

/-- The wait for another device's block. -/
theorem waitBlock_spec (c b : Dev nD) (hb : c ≠ b) (l : Owed) (hl : ∀ x ∈ l, 2 < cLev x.1.2) :
    tr (ctx I K) c (blockStep c b) iprop((crd c (.br (peer c b)) NB ∗ at0 c (.br (peer c b))) ∗ ow c l)
      iprop((zero c (.br (peer c b)) ∗ fpts I c b fullShare) ∗ ow c l) := by
  have hd : cDut (.br (peer c b)) = {0} := if_neg (peer_ne c b hb)
  have h := wait_spec I K c (.br (peer c b)) (w := .waitDma2 (brS (peer c b)) (fB b) (fB b) (fB_words b) (fB_words b)) (k' := NB)
    (wpE_waitDma2_eq 𝒱₀ (c : Thread nD τ) none Set.univ) (by rw [hd]; exact (Nat.one_mul _).symm) l hl
  rw [pay_one I c _ hd] at h
  unfold blockStep
  rw [if_pos hb]
  have e : cPay I c (.br (peer c b)) 0 = fpts I c b fullShare := by
    show fpts I c (peer c (peer c b)) fullShare = _
    rw [peer_self]
  rw [e] at h
  exact h

/-- The wait for an exchange's source. -/
theorem waitSend_spec (c : Dev nD) (n : Fin 9) (ci : Fin 6) (l : Owed) (hl : ∀ x ∈ l, 0 < cLev x.1.2) :
    tr (ctx I K) c (waitSendStep n ci) iprop((crd c (.sn (n, ci)) (NC (n, ci)) ∗ at0 c (.sn (n, ci))) ∗ ow c l)
      iprop((zero c (.sn (n, ci)) ∗ anyOwn c (sC n ci)) ∗ ow c l) := by
  have h := wait_spec I K c (.sn (n, ci)) (w := .waitDma2 (snS (sidx n ci)) (rC n ci) (sC n ci) (rC_words n ci) (sC_words n ci)) (k' := NC (n, ci))
    (wpE_waitDma2_eq 𝒱₀ (c : Thread nD τ) none Set.univ) (Nat.one_mul _).symm l hl
  rw [pay_one I c _ rfl] at h
  exact h

/-- The wait for what an exchange brings. -/
theorem waitRecv_spec (c : Dev nD) (n : Fin 9) (ci : Fin 6) (l : Owed) (hl : ∀ x ∈ l, 3 + n.val < cLev x.1.2) :
    tr (ctx I K) c (waitRecvStep n ci) iprop((crd c (.rv (n, ci)) (NC (n, ci)) ∗ at0 c (.rv (n, ci))) ∗ ow c l)
      iprop((zero c (.rv (n, ci)) ∗ owns (c : Thread nD τ) (rC n ci) fullShare (narrowC ci (A I n (peer c (mask n ci)) ci))) ∗ ow c l) := by
  have h := wait_spec I K c (.rv (n, ci)) (w := .waitDma2 (rvS (sidx n ci)) (sC n ci) (rC n ci) (sC_words n ci) (rC_words n ci)) (k' := NC (n, ci))
    (wpE_waitDma2_eq 𝒱₀ (c : Thread nD τ) none Set.univ) (Nat.one_mul _).symm l hl
  rw [pay_one I c _ rfl] at h
  exact h

/-- A copy to a peer, paying the source's cell `k₁` and the peer's cell `k₂`. -/
theorem copy_spec (c p : Dev nD) (k₁ k₂ : CI) {s : Shape} {e : EltTy} (src dst : Memref sig .tc .vmem s e) (sS rS : DmaSem sig)
    (e₁ : csem k₁ = .dma sS) (e₂ : csem k₂ = .dma rS) (hd₁ : (0 : Fin 8) ∈ cDut k₁) (hd₂ : (0 : Fin 8) ∈ cDut k₂) (N : ℕ)
    (hN : dst.view.dmaCredit = N) (ha₁ : cAmt k₁ = N) (ha₂ : cAmt k₂ = N) (q : PosShare TreeShare)
    (fs : Buf (Elt F) (src.view.loc (c : Thread nD τ))) (fd : Buf (Elt F) (dst.view.loc (p : Thread nD τ)))
    (hp₁ : (src.view.loc (c : Thread nD τ) ↦[src.view.set]{q} fs : SP F) ⊢ cPay I c k₁ 0)
    (hp₂ : (dst.view.loc (p : Thread nD τ) ↦[dst.view.set]{fullShare} dst.view.write (Elt F) fd (src.view.read (Elt F) fs) Finset.univ : SP F) ⊢ cPay I p k₂ 0)
    {hsc : (dst : Memref sig (Dev.tc p : Thread nD τ).2.kind .vmem s e).view.ref.isScScratch = false} {hsrc : src.view.WordExact} {hdst : dst.view.WordExact}
    {hsem : DmaTarget.Typed .vmem (.dma rS) (.remote (Dev.tc p : Thread nD τ) dst (.dma sS) hsc)} (l : Owed) :
    tr (ctx I K) c (Prog.lift (.enqueueDma src (.remote (Dev.tc p : Thread nD τ) dst (.dma sS) hsc) (.dma rS) hsrc hdst hsem))
      iprop(((src.view.loc (c : Thread nD τ) ↦[src.view.set]{q} fs) ∗ (dst.view.loc (p : Thread nD τ) ↦[dst.view.set]{fullShare} fd)
        ∗ tok0 c k₁ 0 ∗ tok0 p k₂ 0) ∗ ow c (((p, k₂), N) :: l))
      iprop(crd c k₁ N ∗ ow c l) := by
  have c₁ : cell c k₁ = ((c : Thread nD τ), SemLoc.dma sS) := by unfold cell; rw [e₁]
  have c₂ : cell p k₂ = ((p : Thread nD τ), SemLoc.dma rS) := by unfold cell; rw [e₂]
  have i₁ := ctx_inv I K c k₁
  have i₂ := ctx_inv I K p k₂
  have r₁ := ctx_reached I K c k₁
  have r₂ := ctx_reached I K p k₂
  have a₁ := amount_cell I c k₁ 0
  have a₂ := amount_cell I p k₂ 0
  have d₁ := duties_cell I c k₁
  have d₂ := duties_cell I p k₂
  rw [← payload_cell I c k₁ 0] at hp₁
  rw [← payload_cell I p k₂ 0] at hp₂
  unfold tr ow wpc
  rw [show tot (((p, k₂), N) :: l) = tot l + tallyAt (cell p k₂) () N from rfl]
  unfold tok0 crd
  rw [c₁] at i₁ r₁ a₁ d₁ hp₁ ⊢
  rw [c₂] at i₂ r₂ a₂ d₂ hp₂ ⊢
  simp only [Prog.lift, Prog.bind_op, Prog.bind_ret, Prog.pure_eq_ret]
  iintro ⟨#HC, ⟨Hs, Hd, Ht, Ht'⟩, ⟨%W, HO⟩⟩
  iapply (Rounds.wp_send_pointsTo 𝒱₀ ER (Rd I) (c : Thread nD τ) none (κ₁ := K (c, k₁)) (κ₂ := K (p, k₂)) (r₁ := 0) (r₂ := 0)
    (d₁ := 0) (d₂ := 0) (fs := fs) (fd := fd) (by rw [d₁]; exact hd₁) (by rw [d₂]; exact hd₂)
    () () N (show dst.view.amount (.dma rS) = N from hN) (a₁.trans ha₁) (a₂.trans ha₂) (tot l) rfl (W := W) hp₁ hp₂) $$ [Hs Hd HO Ht Ht']
  · isplitr; · iapply i₁; iexact HC
    isplitr; · iapply i₂; iexact HC
    isplitl [Hs]; · iexact Hs
    isplitl [Hd]; · iexact Hd
    isplitl [HO]; · iexact HO
    isplitl [Ht]; · iexact Ht
    isplitr; · iapply r₁; iexact HC
    isplitl [Ht']; · iexact Ht'
    iapply r₂; iexact HC
  iintro ⟨Hc, HO⟩
  rw [wp_ret]; imodintro
  isplitl [Hc]; · iexact Hc
  iexists W; iexact HO

/-- A broadcast's copy: a share of the own block is lent, and the block lands in the place the peer gave. -/
theorem bcast_spec (c : Dev nD) (j : Fin 8) (hj : j ∈ masks) (l : Owed) :
    tr (ctx I K) c (bcastStep c j)
      iprop((fpts I c c (shareTok fullShare 8 j) ∗ anyOwn (peer c j) (fB c) ∗ tok0 c (.bs j) 0 ∗ tok0 (peer c j) (.br j) 0) ∗ ow c (brX c j :: l))
      iprop(crd c (.bs j) NB ∗ ow c l) := by
  have hd : (0 : Fin 8) ∈ cDut (.bs j) := by revert hj; revert j; decide
  have hd' : (0 : Fin 8) ∈ cDut (.br j) := by revert hj; revert j; decide
  have h := fun fd => copy_spec I K c (peer c j) (.bs j) (.br j) (fB c) (fB c) (bsS j) (brS j) rfl rfl hd hd' NB (NB_eq c) rfl rfl
    (shareTok fullShare 8 j) (XF I) fd (BIBase.Entails.of_eq rfl)
    (by
      show _ ⊢ fpts I (peer c j) (peer (peer c j) j) fullShare
      rw [peer_peer]
      unfold fpts
      refine BIBase.Entails.of_eq (pointsTo_congr fun i hi => ?_)
      rw [View.write_read_eq_piecewise]
      exact Finset.piecewise_eq_of_mem _ _ _ hi)
    (hsc := rfl) (hsrc := fB_words c) (hdst := fB_words c) (hsem := ⟨⟨rfl, Or.inl rfl⟩, trivial⟩) l
  unfold tr at h ⊢
  unfold anyOwn owns
  iintro ⟨#HC, ⟨Hs, ⟨%X, %fd, %hfd, Hd⟩, Ht⟩, HO⟩
  iapply (h fd)
  isplitr; · iexact HC
  isplitr [HO]
  · unfold fpts
    isplitl [Hs]; · iexact Hs
    isplitl [Hd] <;> iassumption
  iexact HO

/-- An exchange's copy: the send buffer's chunk is lent whole, and lands in the place the peer gave. -/
theorem send_spec (c : Dev nD) (n : Fin 9) (ci : Fin 6) (l : Owed) :
    tr (ctx I K) c (sendStep c n ci)
      iprop((owns (c : Thread nD τ) (sC n ci) fullShare (narrowC ci (A I n c ci)) ∗ anyOwn (peer c (mask n ci)) (rC n ci)
        ∗ tok0 c (.sn (n, ci)) 0 ∗ tok0 (peer c (mask n ci)) (.rv (n, ci)) 0) ∗ ow c (rvX c (n, ci) :: l))
      iprop(crd c (.sn (n, ci)) (NC (n, ci)) ∗ ow c l) := by
  have h := fun fs fd hp₁ hp₂ => copy_spec I K c (peer c (mask n ci)) (.sn (n, ci)) (.rv (n, ci)) (sC n ci) (rC n ci) (snS (sidx n ci)) (rvS (sidx n ci))
    rfl rfl (Finset.mem_singleton_self _) (Finset.mem_singleton_self _) (NC (n, ci)) (NC_eq n ci) rfl rfl fullShare fs fd hp₁ hp₂
    (hsc := rfl) (hsrc := sC_words n ci) (hdst := rC_words n ci) (hsem := ⟨⟨rfl, Or.inl rfl⟩, trivial⟩) l
  unfold tr at h ⊢
  unfold anyOwn
  conv in owns (c : Thread nD τ) (sC n ci) fullShare _ => unfold owns
  iintro ⟨#HC, ⟨⟨%fs, %hfs, Hs⟩, ⟨%X, Hd⟩, Ht⟩, HO⟩
  unfold owns
  icases Hd with ⟨%fd, %hfd, Hd⟩
  iapply (h fs fd
    (by
      show _ ⊢ anyOwn c (sC n ci)
      unfold anyOwn owns
      iintro H; iexists _; iexists fs; isplitr; · (ipureintro; rfl)
      iexact H)
    (by
      show _ ⊢ (owns (peer c (mask n ci) : Thread nD τ) (rC n ci) fullShare (narrowC ci (A I n (peer (peer c (mask n ci)) (mask n ci)) ci)) : SP F)
      rw [peer_peer, ← hfs]
      unfold owns
      iintro H
      iexists ((rC n ci).view.write (Elt F) fd ((sC n ci).view.read (Elt F) fs) Finset.univ)
      isplitr; · (ipureintro; exact View.read_write_univ _ _)
      iexact H))
  isplitr; · iexact HC
  isplitr [HO]
  · isplitl [Hs]; · iexact Hs
    isplitl [Hd] <;> iassumption
  iexact HO

end Cert.Mlp

end
-- ==== Proof.Calc.lean ====
/-
The computing steps: the own block's narrowing, a chunk's first share, the joins and the later layers' shares, the result.
-/
module

public import proofs.«01_k».proof.Proof.Moves

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] (I : Ins F) (K : Dev nD × CI → ℕ)

/-! ## Loads and stores of owned memrefs -/

section Own

variable {c : Dev nD} {s : Shape} {e : EltTy} (M : Memref sig .tc .vmem s e)

/-- Loading a whole memref gives what it holds. -/
theorem wp_load_own {off : Fin s.rank → ℕ} (h0 : ∀ a, off a = 0) (inb : ∀ a, off a + s.size a ≤ s.size a) {q : PosShare TreeShare} {X : s.Idx → Elt F e}
    {hl : M.view.LoadsAt (Rect.unit (s := s) off s.size inb).toLoadRect} {k : (s.Idx → Elt F e) → P F} {Q : PUnit → SP F} :
    owns (c : Thread nD τ) M q X
      ⊢ iprop((owns (c : Thread nD τ) M q X -∗ wpc c (k X) Q) -∗ wpc c (.op (.load M (Rect.unit (s := s) off s.size inb).toLoadRect hl) k) Q) := by
  unfold owns
  iintro ⟨%f, %hf, H⟩ Hk
  iapply (wp_load_rect 𝒱₀ (c : Thread nD τ) none Set.univ (m := M) (r := Rect.unit (s := s) off s.size inb) (S := M.view.set) (q := q) (f := f)
    (View.set_slice_subset _ _)) $$ [H]
  · iexact H
  iintro H
  have e : (M.access (Rect.unit (s := s) off s.size inb)).read (Elt F) f = X := by
    rw [← hf]
    funext x
    show M.view.read (Elt F) f ((Rect.unit (s := s) off s.size inb).emb x) = M.view.read (Elt F) f x
    congr 1
    funext a
    apply Fin.ext
    rw [Rect.emb_apply]
    show off a + 1 * (x a).val = _
    rw [h0 a]; omega
  rw [e]
  iapply Hk
  iexists f
  isplitr; · ipureintro; exact hf
  iexact H

variable (r : Rect s) (hr : ∀ a, r.stride a = 1)

/-- Loading a rectangle owned as a slice gives what the slice holds. -/
theorem wp_load_sl {q : PosShare TreeShare} {X : r.shape.Idx → Elt F e} {hl : M.view.LoadsAt r.toLoadRect}
    {k : (r.shape.Idx → Elt F e) → P F} {Q : PUnit → SP F} :
    owns (c : Thread nD τ) (M.slice r hr) q X
      ⊢ iprop((owns (c : Thread nD τ) (M.slice r hr) q X -∗ wpc c (k X) Q) -∗ wpc c (.op (.load M r.toLoadRect hl) k) Q) := by
  unfold owns
  iintro ⟨%f, %hf, H⟩ Hk
  iapply (wp_load_rect 𝒱₀ (c : Thread nD τ) none Set.univ (m := M) (r := r) (S := (M.access r).set) (q := q) (f := f) (Finset.Subset.refl _)) $$ [H]
  · iexact H
  iintro H
  rw [show (M.access r).read (Elt F) f = X from hf]
  iapply Hk
  iexists f
  isplitr; · ipureintro; exact hf
  iexact H

/-- Storing through a rectangle owned as a slice: the slice holds what was stored. -/
theorem wp_store_sl {Y w : r.shape.Idx → Elt F e}
    {hx : (M.access r).Stores Finset.univ} {hm : (Finset.univ : Finset r.shape.Idx) = Finset.univ ∨ ∀ a, r.stride a = 1}
    {k : PUnit → P F} {Q : PUnit → SP F} :
    owns (c : Thread nD τ) (M.slice r hr) fullShare Y
      ⊢ iprop((owns (c : Thread nD τ) (M.slice r hr) fullShare w -∗ wpc c (k ⟨⟩) Q) -∗ wpc c (.op (.store M r w Finset.univ hx hm) k) Q) := by
  unfold owns
  iintro ⟨%f, %hf, H⟩ Hk
  iapply (wp_store 𝒱₀ (c : Thread nD τ) none Set.univ (m := M) (r := r) (Mk := Finset.univ) (S := (M.access r).set) (f := f)
    (Finset.Subset.refl _)) $$ [H]
  · iexact H
  iintro H
  iapply Hk
  iexists ((M.access r).write (Elt F) f w Finset.univ)
  isplitr
  · ipureintro
    exact View.read_write_univ _ _
  iexact H

end Own

/-! ## The gathered activations -/

/-- A block holding the gathered activations' rows, as a piece of the whole. -/
theorem own_fpts (c b : Dev nD) : owns (c : Thread nD τ) (fB b) fullShare (narrow (I.x b)) ⊢ fpts I c b fullShare := by
  unfold owns fpts
  iintro ⟨%f, %hf, H⟩
  iapply (BIBase.Entails.of_eq (pointsTo_congr (f := f) (g := XF I) fun i hi => ?_)) $$ H
  have h := View.write_read_eq_piecewise (v := (fB b).view) f f Finset.univ
  have h' := View.write_read_eq_piecewise (v := (fB b).view) f (XF I) Finset.univ
  rw [read_XF, ← hf, h] at h'
  have hi' : i ∈ (fB b).view.setOn Finset.univ := hi
  have := congrFun h' i
  rw [Finset.piecewise_eq_of_mem _ _ _ hi', Finset.piecewise_eq_of_mem _ _ _ hi'] at this
  exact this

/-- The own block narrowed into its place. -/
theorem copy_own (c : Dev nD) (C : SP F) :
    tr C c (copyStep c) iprop(owns (c : Thread nD τ) xM fullShare (I.x c) ∗ anyOwn c (fB c))
      iprop(owns (c : Thread nD τ) xM fullShare (I.x c) ∗ fpts I c c fullShare) := by
  unfold tr copyStep anyOwn
  simp only [Prog.lift, Prog.bind_op, Prog.bind_ret, Prog.pure_eq_ret]
  iintro ⟨-, Hx, ⟨%Y, Hf⟩⟩
  iapply (wp_load_own (c := c) xM (off := ![0, 0]) (by decide) inb_S128x128_S128x128_0_0) $$ Hx; iintro Hx
  iapply (wp_load_sl (c := c) fM (rB c) (fun _ => rfl)) $$ Hf; iintro Hf
  iapply (wp_store_sl (c := c) fM (rB c) (fun _ => rfl)) $$ Hf; iintro Hf
  unfold wpc; rw [wp_ret]; imodintro
  isplitl [Hx]; · iexact Hx
  iapply (own_fpts I c c); iexact Hf

/-- The rows of the blocks below `n`. -/
def rowsTo (n : ℕ) : Finset S1024x128.Idx := Finset.univ.filter fun i => (i 0).val < n * 128

theorem mem_rowsTo (n : ℕ) (i : S1024x128.Idx) : i ∈ rowsTo n ↔ (i 0).val < n * 128 := by unfold rowsTo; simp
theorem mem_block (b : Dev nD) (i : S1024x128.Idx) : i ∈ (fB b).view.set ↔ b.val * 128 ≤ (i 0).val ∧ (i 0).val < b.val * 128 + 128 := by
  show i ∈ ((View.whole cc0_scratch0).slice (rB b)).set ↔ _
  rw [View.set_slice_whole]
  have h1 : (i 1).val < 128 := (i 1).isLt
  refine Rect.mem_set_unit.trans ⟨fun h => h 0, fun h a => ?_⟩
  fin_cases a
  · exact h
  · exact ⟨Nat.zero_le _, by show (i 1).val < 0 + 128; omega⟩
theorem rowsTo_succ (b : Dev nD) : rowsTo (b.val + 1) = rowsTo b.val ∪ (fB b).view.set := by
  ext i
  refine (mem_rowsTo _ _).trans (Iff.trans ?_ Finset.mem_union.symm)
  refine Iff.trans ?_ (or_congr (mem_rowsTo _ _) (mem_block _ _)).symm
  omega
theorem rowsTo_disj (b : Dev nD) : Disjoint (rowsTo b.val) (fB b).view.set := by
  rw [Finset.disjoint_left]
  intro i h h'
  have h1 := (mem_rowsTo _ _).mp h
  have h2 := (mem_block _ _).mp h'
  omega

/-- The kept share of the blocks below `n` of device `c`'s gathered activations. -/
def gath (c : Dev nD) (n : ℕ) : SP F := fM.view.loc (c : Thread nD τ) ↦[rowsTo n]{shareDrop fullShare 8} XF I

theorem gath_zero (c : Dev nD) : (iprop(emp) : SP F) ⊢ gath I c 0 := by
  unfold gath
  rw [show rowsTo 0 = ∅ from Finset.filter_eq_empty_iff.mpr (fun i _ => by omega)]
  exact BIBase.Entails.of_eq pointsTo_empty.symm
theorem gath_succ (c b : Dev nD) : iprop(gath I c b.val ∗ fpts I c b (shareDrop fullShare 8)) ⊢ gath I c (b.val + 1) := by
  unfold gath fpts
  rw [rowsTo_succ]
  exact (pointsTo_union (rowsTo_disj b)).2

/-- The lendable shares of block `b`. -/
def toks (c b : Dev nD) : SP F := bigSep Finset.univ fun j : Fin 8 => fpts I c b (shareTok fullShare 8 j)

theorem fpts_toks (c b : Dev nD) : fpts I c b fullShare ⊣⊢ iprop(fpts I c b (shareDrop fullShare 8) ∗ toks I c b) := by
  unfold toks fpts
  exact pointsTo_toks fullShare 8

/-- What device `c` holds for block `b` before it is ready, -/
def blkIn (c b : Dev nD) : SP F :=
  if c = b then fpts I c b (shareDrop fullShare 8) else iprop(crd c (.br (peer c b)) NB ∗ at0 c (.br (peer c b)))
/-- and after. -/
def blkOut (c b : Dev nD) : SP F := if c = b then iprop(emp) else iprop(zero c (.br (peer c b)) ∗ toks I c b)

/-- A block made ready: the own one is, another's is waited for. -/
theorem block_spec (c b : Dev nD) (l : Owed) (hl : ∀ x ∈ l, 2 < cLev x.1.2) :
    tr (ctx I K) c (blockStep c b) iprop(blkIn I c b ∗ gath I c b.val ∗ ow c l) iprop(blkOut I c b ∗ gath I c (b.val + 1) ∗ ow c l) := by
  by_cases hb : c = b
  · unfold blkIn blkOut blockStep tr
    rw [if_pos hb, if_pos hb, if_neg (not_not.mpr hb)]
    show _ ⊢ wpc c (.ret ⟨⟩) _
    unfold wpc; rw [wp_ret]
    iintro ⟨-, Hb, Hg, HO⟩
    imodintro
    isplitr; · iempintro
    isplitr [HO]
    · iapply (gath_succ I c b); isplitl [Hg] <;> iassumption
    iexact HO
  · unfold blkIn blkOut
    rw [if_neg hb, if_neg hb]
    refine ((waitBlock_spec I K c b hb l hl).frame (R := gath I c b.val)).pre ?_ |>.post ?_
    · iintro ⟨Hb, Hg, HO⟩
      isplitr [Hg]
      · isplitl [Hb] <;> iassumption
      iexact Hg
    · iintro ⟨⟨⟨Hz, Hf⟩, HO⟩, Hg⟩
      ihave H := (fpts_toks I c b).1 $$ Hf
      icases H with ⟨Hd, Ht⟩
      isplitl [Hz Ht]; · isplitl [Hz] <;> iassumption
      isplitr [HO]
      · iapply (gath_succ I c b); isplitl [Hg] <;> iassumption
      iexact HO

/-! ## The own sums and the weights -/

/-- Chunk `ci` of layer `k`'s sums. -/
abbrev aC (k : Fin 3) (ci : Fin 6) : Memref sig .tc .vmem (SC ci) .f32 := (aM.slice (rA k ci) (fun _ => rfl)).squeeze (SC ci) (squeezes_C ci)

/-- The three layers' sums of a chunk. -/
def accV (c : Dev nD) (ci : Fin 6) (v : Fin 3 → FVec F (SC ci) .f32) : SP F :=
  bigSep Finset.univ fun k => owns (c : Thread nD τ) (aC k ci) fullShare (v k)
/-- The same, layer `k`'s being `x`. -/
def accAt (c : Dev nD) (ci : Fin 6) (k : Fin 3) (x : FVec F (SC ci) .f32) : SP F := iprop(∃ v, ⌜v k = x⌝ ∗ accV c ci v)
def accAny (c : Dev nD) (ci : Fin 6) : SP F := iprop(∃ v, accV c ci v)

theorem accAt_any (c : Dev nD) (ci : Fin 6) (k : Fin 3) (x : FVec F (SC ci) .f32) : accAt c ci k x ⊢ accAny c ci := by
  unfold accAt accAny; iintro ⟨%v, -, H⟩; iexists v; iexact H

theorem accV_take (c : Dev nD) (ci : Fin 6) (v : Fin 3 → FVec F (SC ci) .f32) (k : Fin 3) :
    accV c ci v ⊢ iprop(owns (c : Thread nD τ) (aC k ci) fullShare (v k)
      ∗ ∀ x, owns (c : Thread nD τ) (aC k ci) fullShare x -∗ accV c ci (Function.update v k x)) := by
  unfold accV
  rw [bs_split k]
  iintro ⟨H, Hr⟩
  isplitl [H]; · iexact H
  iintro %x Hx
  rw [bs_split k (fun k' => (owns (c : Thread nD τ) (aC k' ci) fullShare (Function.update v k x k') : SP F))]
  isplitl [Hx]; · rw [Function.update_self]; iexact Hx
  iapply (BIBase.Entails.of_eq (bigSep_congr fun k' hk' => ?_)) $$ Hr
  rw [Function.update_of_ne (Finset.ne_of_mem_erase hk')]

/-- The layers' weights. -/
def wts (c : Dev nD) : SP F :=
  bigSep Finset.univ fun k => iprop(owns (c : Thread nD τ) (wiM k) fullShare (I.wi k c) ∗ owns (c : Thread nD τ) (woM k) fullShare (I.wo k c))

theorem wts_take (c : Dev nD) (k : Fin 3) :
    wts I c ⊢ iprop((owns (c : Thread nD τ) (wiM k) fullShare (I.wi k c) ∗ owns (c : Thread nD τ) (woM k) fullShare (I.wo k c))
      ∗ ((owns (c : Thread nD τ) (wiM k) fullShare (I.wi k c) ∗ owns (c : Thread nD τ) (woM k) fullShare (I.wo k c)) -∗ wts I c)) := by
  unfold wts
  rw [bs_split k]
  iintro ⟨H, Hr⟩
  isplitl [H]; · iexact H
  iintro H
  isplitl [H] <;> iassumption

theorem shapeCast_up (ci : Fin 6) (p : FVec F (SC ci) .f32) : shapeCast (SC ci) (up ci p) (casts_32 ci) = p := by
  unfold up; rw [shapeCast_shapeCast]
theorem shapeCast_upN (ci : Fin 6) (p : FVec F (SC ci) .f32) : shapeCast (SC ci) (upN ci p) (casts_32 ci) = narrowC ci p := by
  unfold upN narrowC; rw [shapeCast_shapeCast]

/-- A share stored among the sums, and its narrowing put up for sending. -/
theorem put_spec (c : Dev nD) (k : Fin 3) (n : Fin 9) (ci : Fin 6) (p : FVec F (SC ci) .f32) (Q : PUnit → SP F) :
    iprop(accAny c ci ∗ anyOwn c (sC n ci)) ⊢ iprop((accAt c ci k p ∗ owns (c : Thread nD τ) (sC n ci) fullShare (narrowC ci p) -∗ Q ⟨⟩) -∗ wpc c (putStep k n ci p) Q) := by
  unfold putStep accAny anyOwn
  simp only [Prog.lift, Prog.bind_op, Prog.bind_ret, Prog.pure_eq_ret]
  iintro ⟨⟨%v, Ha⟩, ⟨%Y, Hs⟩⟩ HQ
  ihave Ha := (accV_take c ci v k) $$ Ha
  icases Ha with ⟨Ha, Hr⟩
  iapply (wp_load_sq (c := c) aM (rA k ci) (fun _ => rfl) (squeezes_C ci) (casts_32 ci)) $$ Ha; iintro %w - Ha
  iapply (wp_store_sq (c := c) aM (rA k ci) (fun _ => rfl) (squeezes_C ci) (casts_32 ci) (shapeCast_up ci p)) $$ Ha; iintro Ha
  iapply (wp_load_sq (c := c) sM (rS n ci) (fun _ => rfl) (squeezes_C ci) (casts_32 ci)) $$ Hs; iintro %w' - Hs
  iapply (wp_store_sq (c := c) sM (rS n ci) (fun _ => rfl) (squeezes_C ci) (casts_32 ci) (shapeCast_upN ci p)) $$ Hs; iintro Hs
  unfold wpc; rw [wp_ret]; imodintro
  iapply HQ
  isplitl [Ha Hr]
  · unfold accAt
    iexists (Function.update v k p)
    isplitr; · ipureintro; exact Function.update_self _ _ _
    iapply Hr; iexact Ha
  iexact Hs

/-- The sum of layer `k`, taken to be read. -/
theorem accAt_take (c : Dev nD) (ci : Fin 6) (k : Fin 3) (x : FVec F (SC ci) .f32) :
    accAt c ci k x ⊢ iprop(owns (c : Thread nD τ) (aC k ci) fullShare x ∗ (owns (c : Thread nD τ) (aC k ci) fullShare x -∗ accAny c ci)) := by
  unfold accAt accAny
  iintro ⟨%v, %hv, H⟩
  subst hv
  ihave H := (accV_take c ci v k) $$ H
  icases H with ⟨H, Hr⟩
  isplitl [H]; · iexact H
  iintro H
  iexists _
  iapply Hr; iexact H

/-- A chunk's first share, from the gathered activations. -/
theorem start_spec (c : Dev nD) (ci : Fin 6) (nb : ℕ) (hnb : roff ci + rows ci ≤ nb * 128) (C : SP F) :
    tr C c (startStep ci) iprop(gath I c nb ∗ wts I c ∗ accAny c ci ∗ anyOwn c (sC 0 ci))
      iprop(gath I c nb ∗ wts I c ∗ accAt c ci (lay 0) (A I 0 c ci) ∗ owns (c : Thread nD τ) (sC 0 ci) fullShare (narrowC ci (A I 0 c ci))) := by
  unfold tr startStep gath
  simp only [Prog.lift, Prog.bind_op, Prog.bind_ret, Prog.pure_eq_ret]
  iintro ⟨-, Hg, Hw, Ha⟩
  iapply (wp_load_rect 𝒱₀ (c : Thread nD τ) none Set.univ (m := fM) (r := rX ci) (S := rowsTo nb) (q := shareDrop fullShare 8) (f := XF I)
    (by
      intro i hi
      have hi' : i ∈ ((View.whole cc0_scratch0).slice (rX ci)).set := hi
      rw [View.set_slice_whole] at hi'
      have h := (Rect.mem_set_unit.mp hi' 0).2
      exact (mem_rowsTo nb i).mpr (lt_of_lt_of_le h hnb))) $$ [Hg]
  · iexact Hg
  iintro Hg
  ihave Hw := (wts_take I c 0) $$ Hw
  icases Hw with ⟨⟨Hi, Ho⟩, Hw⟩
  iapply (wp_load_own (c := c) (wiM 0) (off := ![0, 0]) (by decide) inb_S128x256_S128x256_0_0) $$ Hi; iintro Hi
  iapply (wp_load_own (c := c) (woM 0) (off := ![0, 0]) (by decide) inb_S256x128_S256x128_0_0) $$ Ho; iintro Ho
  iapply (put_spec c 0 0 ci _ _) $$ Ha
  iintro ⟨Ha, Hs⟩
  isplitl [Hg]; · iexact Hg
  isplitl [Hi Ho Hw]
  · iapply Hw; isplitl [Hi] <;> iassumption
  isplitl [Ha]
  · iexact Ha
  iexact Hs

theorem lay_same (n : Fin 8) : sub n.castSucc ≠ 2 → lay n.castSucc = lay n.succ := by revert n; decide

/-- What round `n` brought joined to the own sum, and the next round's share from it. -/
theorem next_spec (c : Dev nD) (n : Fin 8) (ci : Fin 6) (r : FVec F (SC ci) .bf16)
    (hr : r = narrowC ci (A I n.castSucc (peer c (mask n.castSucc ci)) ci)) (C : SP F) :
    tr C c (nextStep n ci)
      iprop(wts I c ∗ accAt c ci (lay n.castSucc) (A I n.castSucc c ci) ∗ owns (c : Thread nD τ) (rC n.castSucc ci) fullShare r ∗ anyOwn c (sC n.succ ci))
      iprop((wts I c ∗ owns (c : Thread nD τ) (rC n.castSucc ci) fullShare r) ∗ accAt c ci (lay n.succ) (A I n.succ c ci)
        ∗ owns (c : Thread nD τ) (sC n.succ ci) fullShare (narrowC ci (A I n.succ c ci))) := by
  have hA := A_succ I n c ci
  rw [← hr] at hA
  unfold nextVal at hA
  unfold nextStep
  by_cases h2 : sub n.castSucc = 2
  · rw [if_pos h2] at hA ⊢
    unfold tr layerStep
    simp only [Prog.lift, Prog.bind_op, Prog.bind_ret, Prog.pure_eq_ret]
    iintro ⟨-, Hw, Ha, Hr, Hs⟩
    ihave Ha := (accAt_take c ci _ _) $$ Ha
    icases Ha with ⟨Ha, Hra⟩
    iapply (wp_load_sq (c := c) aM (rA (lay n.castSucc) ci) (fun _ => rfl) (squeezes_C ci) (casts_32 ci)) $$ Ha; iintro %a %ha Ha
    iapply (wp_load_sq (c := c) rM (rS n.castSucc ci) (fun _ => rfl) (squeezes_C ci) (casts_32 ci)) $$ Hr; iintro %r' %hr' Hr
    ihave Hw := (wts_take I c (lay n.succ)) $$ Hw
    icases Hw with ⟨⟨Hi, Ho⟩, Hw⟩
    iapply (wp_load_own (c := c) (wiM (lay n.succ)) (off := ![0, 0]) (by decide) inb_S128x256_S128x256_0_0) $$ Hi; iintro Hi
    iapply (wp_load_own (c := c) (woM (lay n.succ)) (off := ![0, 0]) (by decide) inb_S256x128_S256x128_0_0) $$ Ho; iintro Ho
    ihave Ha := Hra $$ Ha
    have e : layer ci (join ci a r') (I.wi (lay n.succ) c) (I.wo (lay n.succ) c) = A I n.succ c ci := by
      rw [hA]
      have : join ci a r' = joinC ci (A I n.castSucc c ci) r := by rw [← ha, ← hr']; rfl
      rw [this]
    rw [e]
    iapply (put_spec c (lay n.succ) n.succ ci _ _) $$ [Ha Hs]
    · isplitl [Ha] <;> iassumption
    iintro ⟨Ha, Hs⟩
    isplitl [Hi Ho Hw Hr]
    · isplitr [Hr]
      · iapply Hw; isplitl [Hi] <;> iassumption
      iexact Hr
    isplitl [Ha] <;> iassumption
  · rw [if_neg h2] at hA ⊢
    have hlay : lay n.castSucc = lay n.succ := lay_same n h2
    unfold tr joinStep
    simp only [Prog.lift, Prog.bind_op, Prog.bind_ret, Prog.pure_eq_ret]
    iintro ⟨-, Hw, Ha, Hr, Hs⟩
    ihave Ha := (accAt_take c ci _ _) $$ Ha
    icases Ha with ⟨Ha, Hra⟩
    iapply (wp_load_sq (c := c) aM (rA (lay n.castSucc) ci) (fun _ => rfl) (squeezes_C ci) (casts_32 ci)) $$ Ha; iintro %a %ha Ha
    iapply (wp_load_sq (c := c) rM (rS n.castSucc ci) (fun _ => rfl) (squeezes_C ci) (casts_32 ci)) $$ Hr; iintro %r' %hr' Hr
    ihave Ha := Hra $$ Ha
    have e : join ci a r' = A I n.succ c ci := by rw [hA, ← ha, ← hr']; rfl
    rw [e]
    iapply (put_spec c (lay n.castSucc) n.succ ci _ _) $$ [Ha Hs]
    · isplitl [Ha] <;> iassumption
    iintro ⟨Ha, Hs⟩
    rw [hlay]
    isplitl [Hw Hr]
    · isplitl [Hw] <;> iassumption
    isplitl [Ha] <;> iassumption

/-- Chunk `ci` of the result. -/
abbrev oC (ci : Fin 6) : Memref sig .tc .vmem (SC ci) .f32 := oM.slice (rX ci) (fun _ => rfl)

/-- The last sum, into the result. -/
theorem out_spec (c : Dev nD) (ci : Fin 6) (C : SP F) :
    tr C c (outStep ci)
      iprop(accAt c ci 2 (A I 8 c ci) ∗ owns (c : Thread nD τ) (rC 8 ci) fullShare (narrowC ci (A I 8 (peer c (mask 8 ci)) ci)) ∗ anyOwn c (oC ci))
      iprop(accAny c ci ∗ anyOwn c (rC 8 ci) ∗ owns (c : Thread nD τ) (oC ci) fullShare (outC I c ci)) := by
  unfold tr outStep
  simp only [Prog.lift, Prog.bind_op, Prog.bind_ret, Prog.pure_eq_ret]
  conv in anyOwn c (oC ci) => unfold anyOwn
  iintro ⟨-, Ha, Hr, ⟨%Y, Ho⟩⟩
  ihave Ha := (accAt_take c ci _ _) $$ Ha
  icases Ha with ⟨Ha, Hra⟩
  iapply (wp_load_sq (c := c) aM (rA 2 ci) (fun _ => rfl) (squeezes_C ci) (casts_32 ci)) $$ Ha; iintro %a %ha Ha
  iapply (wp_load_sq (c := c) rM (rS 8 ci) (fun _ => rfl) (squeezes_C ci) (casts_32 ci)) $$ Hr; iintro %r' %hr' Hr
  iapply (wp_load_sl (c := c) oM (rX ci) (fun _ => rfl)) $$ Ho; iintro Ho
  iapply (wp_store_sl (c := c) oM (rX ci) (fun _ => rfl)) $$ Ho; iintro Ho
  unfold wpc; rw [wp_ret]; imodintro
  isplitl [Ha Hra]; · iapply Hra; iexact Ha
  isplitl [Hr]; · unfold anyOwn; iexists _; iexact Hr
  have e : join ci a r' = outC I c ci := by unfold outC; rw [← ha, ← hr']; rfl
  rw [e]
  iexact Ho

end Cert.Mlp

end
-- ==== Proof.Loops.lean ====
/-
The body's phases: the signals, the broadcasts, the chunks' starts, the exchange rounds, the results and the closing waits.
-/
module

public import proofs.«01_k».proof.Proof.Calc

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] (I : Ins F) (K : Dev nD × CI → ℕ)

/-! ## An exchange's states -/

/-- Round `n` of a chunk, before it is sent, -/
def todo (c : Dev nD) (n : Fin 9) (ci : Fin 6) : SP F :=
  iprop(anyOwn c (sC n ci) ∗ anyOwn (peer c (mask n ci)) (rC n ci) ∗ at0 c (.sn (n, ci)) ∗ at0 c (.rv (n, ci))
    ∗ tok0 c (.sn (n, ci)) 0 ∗ tok0 (peer c (mask n ci)) (.rv (n, ci)) 0 ∗ crd c (.rv (n, ci)) (NC (n, ci)))
/-- while its copies are under way, the own sum at hand, -/
def flight (c : Dev nD) (n : Fin 9) (ci : Fin 6) : SP F :=
  iprop(at0 c (.sn (n, ci)) ∗ at0 c (.rv (n, ci)) ∗ crd c (.sn (n, ci)) (NC (n, ci)) ∗ crd c (.rv (n, ci)) (NC (n, ci))
    ∗ accAt c ci (lay n) (A I n c ci))
/-- and after. -/
def done (c : Dev nD) (n : Fin 9) (ci : Fin 6) : SP F :=
  iprop(anyOwn c (sC n ci) ∗ anyOwn c (rC n ci) ∗ zero c (.sn (n, ci)) ∗ zero c (.rv (n, ci)))

/-- Device `c` owes the exchanges `l`. -/
def owR (c : Dev nD) (l : List (Fin 9 × Fin 6)) : SP F := ow c (l.map (rvX c))

theorem lev_rv (c : Dev nD) (l : List (Fin 9 × Fin 6)) (n : ℕ) (h : ∀ p ∈ l, n < 3 + p.1.val) : ∀ x ∈ l.map (rvX c), n < cLev x.1.2 := by
  intro x hx
  obtain ⟨p, hp, rfl⟩ := List.mem_map.mp hx
  exact h p hp

/-- A chunk prepared for round `n` is sent. -/
theorem sendR_spec (c : Dev nD) (n : Fin 9) (ci : Fin 6) (l : List (Fin 9 × Fin 6)) :
    tr (ctx I K) c (sendStep c n ci)
      iprop((accAt c ci (lay n) (A I n c ci) ∗ owns (c : Thread nD τ) (sC n ci) fullShare (narrowC ci (A I n c ci)) ∗ anyOwn (peer c (mask n ci)) (rC n ci)
        ∗ at0 c (.sn (n, ci)) ∗ at0 c (.rv (n, ci))
        ∗ tok0 c (.sn (n, ci)) 0 ∗ tok0 (peer c (mask n ci)) (.rv (n, ci)) 0 ∗ crd c (.rv (n, ci)) (NC (n, ci))) ∗ owR c ((n, ci) :: l))
      iprop(flight I c n ci ∗ owR c l) := by
  refine ((send_spec I K c n ci (l.map (rvX c))).frame
    (R := iprop(accAt c ci (lay n) (A I n c ci) ∗ at0 c (.sn (n, ci)) ∗ at0 c (.rv (n, ci)) ∗ crd c (.rv (n, ci)) (NC (n, ci))))).pre ?_ |>.post ?_
  · unfold owR
    iintro ⟨⟨Ha, Hs, Hr, H1, H2, H3, H4, H5⟩, HO⟩
    isplitl [Hs Hr H3 H4 HO]
    · isplitr [HO]
      · isplitl [Hs]; · iexact Hs
        isplitl [Hr]; · iexact Hr
        isplitl [H3] <;> iassumption
      iexact HO
    isplitl [Ha]; · iexact Ha
    isplitl [H1]; · iexact H1
    isplitl [H2] <;> iassumption
  · unfold flight owR
    iintro ⟨⟨Hc, HO⟩, Ha, H1, H2, H5⟩
    isplitr [HO]
    · isplitl [H1]; · iexact H1
      isplitl [H2]; · iexact H2
      isplitl [Hc]; · iexact Hc
      isplitl [H5] <;> iassumption
    iexact HO

/-- Both waits of a round: what the round brought is there, its buffers and cells are back. -/
theorem waits_spec (c : Dev nD) (n : Fin 9) (ci : Fin 6) (l : List (Fin 9 × Fin 6)) (hl : ∀ p ∈ l, n < p.1) :
    trL (ctx I K) c [waitSendStep n ci, waitRecvStep n ci]
      iprop(flight I c n ci ∗ owR c l)
      iprop((owns (c : Thread nD τ) (rC n ci) fullShare (narrowC ci (A I n (peer c (mask n ci)) ci)) ∗ accAt c ci (lay n) (A I n c ci)
        ∗ anyOwn c (sC n ci) ∗ zero c (.sn (n, ci)) ∗ zero c (.rv (n, ci))) ∗ owR c l) := by
  have h0 := lev_rv c l 0 (fun p _ => by omega)
  have h1 := lev_rv c l (3 + n.val) (fun p hp => by have := hl p hp; omega)
  refine trL_cons (((waitSend_spec I K c n ci _ h0).frame
      (R := iprop(at0 c (.rv (n, ci)) ∗ crd c (.rv (n, ci)) (NC (n, ci)) ∗ accAt c ci (lay n) (A I n c ci)))).pre ?_)
    ((trL_cons ((waitRecv_spec I K c n ci _ h1).frame
      (R := iprop(zero c (.sn (n, ci)) ∗ anyOwn c (sC n ci) ∗ accAt c ci (lay n) (A I n c ci)))) trL_nil).pre ?_ |>.post ?_)
  · unfold flight owR
    iintro ⟨⟨H1, H2, H3, H4, Ha⟩, HO⟩
    isplitl [H1 H3 HO]
    · isplitr [HO]
      · isplitl [H3] <;> iassumption
      iexact HO
    isplitl [H2]; · iexact H2
    isplitl [H4] <;> iassumption
  · iintro ⟨⟨⟨Hz, Hs⟩, HO⟩, H2, H4, Ha⟩
    isplitl [H2 H4 HO]
    · isplitr [HO]
      · isplitl [H4] <;> iassumption
      iexact HO
    isplitl [Hz]; · iexact Hz
    isplitl [Hs] <;> iassumption
  · unfold owR
    iintro ⟨⟨⟨Hz', Hr⟩, HO⟩, Hz, Hs, Ha⟩
    isplitr [HO]
    · isplitl [Hr]; · iexact Hr
      isplitl [Ha]; · iexact Ha
      isplitl [Hs]; · iexact Hs
      isplitl [Hz] <;> iassumption
    iexact HO

/-- Round `n < 8` of a chunk, and the next one sent. -/
theorem exch_spec (c : Dev nD) (n : Fin 8) (ci : Fin 6) (l : List (Fin 9 × Fin 6)) (hl : ∀ p ∈ (n.succ, ci) :: l, n.castSucc < p.1) :
    trL (ctx I K) c (exchSeq c n ci)
      iprop((todo c n.succ ci ∗ flight I c n.castSucc ci) ∗ (wts I c ∗ owR c ((n.succ, ci) :: l)))
      iprop((done c n.castSucc ci ∗ flight I c n.succ ci) ∗ (wts I c ∗ owR c l)) := by
  unfold exchSeq
  refine trL_append (l := [waitSendStep n.castSucc ci, waitRecvStep n.castSucc ci])
    (((waits_spec I K c n.castSucc ci _ hl).frame (R := iprop(wts I c ∗ todo c n.succ ci))).pre ?_)
    (trL_cons (((next_spec I c n ci _ rfl (ctx I K)).frame
        (R := iprop(anyOwn (peer c (mask n.succ ci)) (rC n.succ ci) ∗ at0 c (.sn (n.succ, ci)) ∗ at0 c (.rv (n.succ, ci))
          ∗ tok0 c (.sn (n.succ, ci)) 0 ∗ tok0 (peer c (mask n.succ ci)) (.rv (n.succ, ci)) 0 ∗ crd c (.rv (n.succ, ci)) (NC (n.succ, ci))
          ∗ anyOwn c (sC n.castSucc ci) ∗ zero c (.sn (n.castSucc, ci)) ∗ zero c (.rv (n.castSucc, ci)) ∗ owR c ((n.succ, ci) :: l)))).pre ?_)
      (trL_cons (((sendR_spec I K c n.succ ci l).frame
        (R := iprop(wts I c ∗ owns (c : Thread nD τ) (rC n.castSucc ci) fullShare (narrowC ci (A I n.castSucc (peer c (mask n.castSucc ci)) ci))
          ∗ anyOwn c (sC n.castSucc ci) ∗ zero c (.sn (n.castSucc, ci)) ∗ zero c (.rv (n.castSucc, ci))))).pre ?_ |>.post ?_) trL_nil))
  · iintro ⟨⟨Ht, Hf⟩, Hw, HO⟩
    isplitl [Hf HO]; · isplitl [Hf] <;> iassumption
    isplitl [Hw] <;> iassumption
  · unfold todo
    iintro ⟨⟨⟨Hr, Ha, Hs, Hz, Hz'⟩, HO⟩, Hw, H0, H1, H2, H3, H4, H5, H6⟩
    isplitl [Hw Ha Hr H0]
    · isplitl [Hw]; · iexact Hw
      isplitl [Ha]; · iexact Ha
      isplitl [Hr] <;> iassumption
    isplitl [H1]; · iexact H1
    isplitl [H2]; · iexact H2
    isplitl [H3]; · iexact H3
    isplitl [H4]; · iexact H4
    isplitl [H5]; · iexact H5
    isplitl [H6]; · iexact H6
    isplitl [Hs]; · iexact Hs
    isplitl [Hz]; · iexact Hz
    isplitl [Hz'] <;> iassumption
  · iintro ⟨⟨⟨Hw, Hr⟩, Ha, Hs'⟩, H1, H2, H3, H4, H5, H6, Hs, Hz, Hz', HO⟩
    isplitl [Ha Hs' H1 H2 H3 H4 H5 H6 HO]
    · isplitr [HO]
      · isplitl [Ha]; · iexact Ha
        isplitl [Hs']; · iexact Hs'
        isplitl [H1]; · iexact H1
        isplitl [H2]; · iexact H2
        isplitl [H3]; · iexact H3
        isplitl [H4]; · iexact H4
        isplitl [H5] <;> iassumption
      iexact HO
    isplitl [Hw]; · iexact Hw
    isplitl [Hr]; · iexact Hr
    isplitl [Hs]; · iexact Hs
    isplitl [Hz] <;> iassumption
  · unfold done
    iintro ⟨⟨Hf, HO⟩, Hw, Hr, Hs, Hz, Hz'⟩
    isplitr [Hw HO]
    · isplitr [Hf]
      · isplitl [Hs]; · iexact Hs
        isplitl [Hr]; · unfold anyOwn; iexists _; iexact Hr
        isplitl [Hz] <;> iassumption
      iexact Hf
    isplitl [Hw] <;> iassumption

/-- The last round of a chunk, and its result. -/
theorem last_spec (c : Dev nD) (ci : Fin 6) :
    trL (ctx I K) c (lastSeq ci) iprop((flight I c 8 ci ∗ anyOwn c (oC ci)) ∗ owR c [])
      iprop((done c 8 ci ∗ accAny c ci ∗ owns (c : Thread nD τ) (oC ci) fullShare (outC I c ci)) ∗ owR c []) := by
  unfold lastSeq
  refine trL_append (l := [waitSendStep 8 ci, waitRecvStep 8 ci])
    (((waits_spec I K c 8 ci [] (fun p hp => absurd hp List.not_mem_nil)).frame (R := anyOwn c (oC ci))).pre ?_)
    (trL_cons (((out_spec I c ci (ctx I K)).frame
        (R := iprop(anyOwn c (sC 8 ci) ∗ zero c (.sn (8, ci)) ∗ zero c (.rv (8, ci)) ∗ owR c []))).pre ?_ |>.post ?_) trL_nil)
  · iintro ⟨⟨Hf, Ho⟩, HO⟩
    isplitl [Hf HO]; · isplitl [Hf] <;> iassumption
    iexact Ho
  · iintro ⟨⟨⟨Hr, Ha, Hs, Hz, Hz'⟩, HO⟩, Ho⟩
    isplitl [Ha Hr Ho]
    · isplitl [Ha]; · iexact Ha
      isplitl [Hr] <;> iassumption
    isplitl [Hs]; · iexact Hs
    isplitl [Hz]; · iexact Hz
    isplitl [Hz'] <;> iassumption
  · unfold done
    iintro ⟨⟨Ha, Hr, Ho⟩, Hs, Hz, Hz', HO⟩
    isplitr [HO]
    · isplitr [Ha Ho]
      · isplitl [Hs]; · iexact Hs
        isplitl [Hr]; · iexact Hr
        isplitl [Hz] <;> iassumption
      isplitl [Ha] <;> iassumption
    iexact HO

/-! ## The starts -/

/-- The blocks `n`, `n + 1`, … made ready one after the other. -/
theorem blocks_spec (c : Dev nD) (l : Owed) (hl : ∀ x ∈ l, 2 < cLev x.1.2) (bs : List (Dev nD)) (n : ℕ) (hn : bs.map (fun b => b.val) = List.range' n bs.length) :
    trL (ctx I K) c (bs.map (blockStep c)) iprop(sepL bs (blkIn I c) ∗ gath I c n ∗ ow c l)
      iprop(sepL bs (blkOut I c) ∗ gath I c (n + bs.length) ∗ ow c l) := by
  induction bs generalizing n with
  | nil => exact trL_nil
  | cons b bs ih =>
    rw [List.map_cons, List.length_cons, List.range'_succ] at hn
    obtain ⟨hb, hn'⟩ := List.cons.inj hn
    subst hb
    rw [List.map_cons, List.length_cons, show b.val + (bs.length + 1) = (b.val + 1) + bs.length by omega]
    refine trL_cons (((block_spec I K c b l hl).frame (R := sepL bs (blkIn I c))).pre ?_) (((ih _ hn').frame (R := blkOut I c b)).pre ?_ |>.post ?_)
    · rw [sepL_cons]
      iintro ⟨⟨H1, H2⟩, H3, H4⟩
      isplitr [H2]
      · isplitl [H1]; · iexact H1
        isplitl [H3] <;> iassumption
      iexact H2
    · iintro ⟨⟨H1, H3, H4⟩, H2⟩
      isplitr [H1]
      · isplitl [H2]; · iexact H2
        isplitl [H3] <;> iassumption
      iexact H1
    · rw [sepL_cons]
      iintro ⟨⟨H2, H3, H4⟩, H1⟩
      isplitl [H1 H2]; · isplitl [H1] <;> iassumption
      isplitl [H3] <;> iassumption

/-- How many blocks are ready before each chunk starts, and at the end. -/
def nbt : Fin 7 → ℕ := ![0, 2, 3, 5, 6, 7, 8]
theorem nbt_blocks (ci : Fin 6) : (blocksAt ci).map (fun b => b.val) = List.range' (nbt ci.castSucc) (blocksAt ci).length := by revert ci; decide
theorem nbt_succ (ci : Fin 6) : nbt ci.castSucc + (blocksAt ci).length = nbt ci.succ := by revert ci; decide
theorem nbt_rows (ci : Fin 6) : roff ci + rows ci ≤ nbt ci.succ * 128 := by revert ci; decide

/-- A chunk's start: its blocks made ready, its first share put up and sent. -/
theorem startSeq_spec (c : Dev nD) (ci : Fin 6) (l : List (Fin 9 × Fin 6)) :
    trL (ctx I K) c (startSeq c ci)
      iprop((sepL (blocksAt ci) (blkIn I c) ∗ accAny c ci ∗ todo c 0 ci) ∗ (gath I c (nbt ci.castSucc) ∗ wts I c ∗ owR c ((0, ci) :: l)))
      iprop((sepL (blocksAt ci) (blkOut I c) ∗ flight I c 0 ci) ∗ (gath I c (nbt ci.succ) ∗ wts I c ∗ owR c l)) := by
  have hb := blocks_spec I K c (((0, ci) :: l).map (rvX c)) (lev_rv c _ 2 (fun p _ => by omega)) (blocksAt ci) _ (nbt_blocks ci)
  rw [nbt_succ] at hb
  unfold startSeq
  refine trL_append ((hb.frame (R := iprop(wts I c ∗ accAny c ci ∗ todo c 0 ci))).pre ?_)
    (trL_cons (((start_spec I c ci (nbt ci.succ) (nbt_rows ci) (ctx I K)).frame
        (R := iprop(anyOwn (peer c (mask 0 ci)) (rC 0 ci) ∗ at0 c (.sn (0, ci)) ∗ at0 c (.rv (0, ci))
          ∗ tok0 c (.sn (0, ci)) 0 ∗ tok0 (peer c (mask 0 ci)) (.rv (0, ci)) 0 ∗ crd c (.rv (0, ci)) (NC (0, ci))
          ∗ sepL (blocksAt ci) (blkOut I c) ∗ owR c ((0, ci) :: l)))).pre ?_)
      (trL_cons (((sendR_spec I K c 0 ci l).frame
        (R := iprop(gath I c (nbt ci.succ) ∗ wts I c ∗ sepL (blocksAt ci) (blkOut I c)))).pre ?_ |>.post ?_) trL_nil))
  · iintro ⟨⟨Hb, Ha, Ht⟩, Hg, Hw, HO⟩
    isplitl [Hb Hg HO]
    · isplitl [Hb]; · iexact Hb
      isplitl [Hg]; · iexact Hg
      unfold owR; iexact HO
    isplitl [Hw]; · iexact Hw
    isplitl [Ha] <;> iassumption
  · unfold todo
    iintro ⟨⟨Hb, Hg, HO⟩, Hw, Ha, H0, H1, H2, H3, H4, H5, H6⟩
    isplitl [Hg Hw Ha H0]
    · isplitl [Hg]; · iexact Hg
      isplitl [Hw]; · iexact Hw
      isplitl [Ha] <;> iassumption
    isplitl [H1]; · iexact H1
    isplitl [H2]; · iexact H2
    isplitl [H3]; · iexact H3
    isplitl [H4]; · iexact H4
    isplitl [H5]; · iexact H5
    isplitl [H6]; · iexact H6
    isplitl [Hb]; · iexact Hb
    unfold owR; iexact HO
  · iintro ⟨⟨Hg, Hw, Ha, Hs⟩, H1, H2, H3, H4, H5, H6, Hb, HO⟩
    isplitl [Ha Hs H1 H2 H3 H4 H5 H6 HO]
    · isplitr [HO]
      · isplitl [Ha]; · iexact Ha
        isplitl [Hs]; · iexact Hs
        isplitl [H1]; · iexact H1
        isplitl [H2]; · iexact H2
        isplitl [H3]; · iexact H3
        isplitl [H4]; · iexact H4
        isplitl [H5] <;> iassumption
      iexact HO
    isplitl [Hg]; · iexact Hg
    isplitl [Hw] <;> iassumption
  · iintro ⟨⟨Hf, HO⟩, Hg, Hw, Hb⟩
    isplitl [Hf Hb]; · isplitl [Hb] <;> iassumption
    isplitl [Hg]; · iexact Hg
    isplitl [Hw] <;> iassumption

/-! ## The loops -/

/-- The exchanges still owed once round `n` of every chunk is sent. -/
def remP (n : Fin 9) : List (Fin 9 × Fin 6) := ((List.finRange 8).drop n.val).flatMap fun m => chunks.map fun ci => (m.succ, ci)
/-- And those of round `n` from chunk `k` on. -/
def remC (n : Fin 9) (k : Fin 7) : List (Fin 9 × Fin 6) := (chunks.drop k.val).map fun ci => (n, ci)

theorem remP_succ (n : Fin 8) : remP n.castSucc = remC n.succ 0 ++ remP n.succ := by revert n; decide
theorem remP_lt (n : Fin 8) : ∀ p ∈ remP n.succ, n.castSucc < p.1 := by revert n; decide
theorem remC_succ (n : Fin 9) (ci : Fin 6) : remC n ci.castSucc = (n, ci) :: remC n ci.succ := by revert n ci; decide
theorem remC_last (n : Fin 9) : remC n (Fin.last 6) = [] := by revert n; decide
theorem remC_lt (n : Fin 8) (k : Fin 7) : ∀ p ∈ remC n.succ k, n.castSucc < p.1 := by revert n k; decide
theorem sends_eq : sends = remC 0 0 ++ remP 0 := by decide
theorem chunks_eq : chunks = List.finRange 6 := by decide

/-- All chunks' starts. -/
theorem starts_spec (c : Dev nD) :
    trL (ctx I K) c (chunks.flatMap (startSeq c))
      iprop(sepL chunks (fun ci => iprop(sepL (blocksAt ci) (blkIn I c) ∗ accAny c ci ∗ todo c 0 ci)) ∗ (gath I c 0 ∗ wts I c ∗ owR c sends))
      iprop(sepL chunks (fun ci => iprop(sepL (blocksAt ci) (blkOut I c) ∗ flight I c 0 ci)) ∗ (gath I c 8 ∗ wts I c ∗ owR c (remP 0))) := by
  have h := trL_range (C := ctx I K) (c := c) 6 (startSeq c) (fun ci => iprop(sepL (blocksAt ci) (blkIn I c) ∗ accAny c ci ∗ todo c 0 ci))
    (fun ci => iprop(sepL (blocksAt ci) (blkOut I c) ∗ flight I c 0 ci))
    (fun k => iprop(gath I c (nbt k) ∗ wts I c ∗ owR c (remC 0 k ++ remP 0)))
    (fun ci => by rw [remC_succ]; exact startSeq_spec I K c ci _)
  rw [remC_last, ← sends_eq, ← chunks_eq] at h
  exact h

/-- A round of every chunk. -/
theorem round_spec (c : Dev nD) (n : Fin 8) :
    trL (ctx I K) c (chunks.flatMap (exchSeq c n))
      iprop(sepL chunks (todo c n.succ) ∗ (sepL chunks (flight I c n.castSucc) ∗ wts I c ∗ owR c (remP n.castSucc)))
      iprop(sepL chunks (done c n.castSucc) ∗ (sepL chunks (flight I c n.succ) ∗ wts I c ∗ owR c (remP n.succ))) := by
  have h := trL_range (C := ctx I K) (c := c) 6 (exchSeq c n) (fun ci => iprop(todo c n.succ ci ∗ flight I c n.castSucc ci))
    (fun ci => iprop(done c n.castSucc ci ∗ flight I c n.succ ci))
    (fun k => iprop(wts I c ∗ owR c (remC n.succ k ++ remP n.succ)))
    (fun ci => by
      rw [remC_succ]
      refine exch_spec I K c n ci _ fun p hp => ?_
      replace hp : p ∈ ((n.succ, ci) :: remC n.succ ci.succ) ++ remP n.succ := hp
      rw [← remC_succ] at hp
      exact (List.mem_append.mp hp).elim (remC_lt n _ p) (remP_lt n p))
  rw [remC_last, ← remP_succ, ← chunks_eq] at h
  refine (h.pre ?_).post ?_
  · iintro ⟨H1, H2, H3⟩
    isplitl [H1 H2]
    · iapply (sepL_sep chunks (todo c n.succ) (flight I c n.castSucc)).2; isplitl [H1] <;> iassumption
    iexact H3
  · iintro ⟨H, H3⟩
    ihave H := (sepL_sep chunks (done c n.castSucc) (flight I c n.succ)).1 $$ H
    icases H with ⟨H1, H2⟩
    isplitl [H1]; · iexact H1
    isplitl [H2]; · iexact H2
    iexact H3

/-- All rounds. -/
theorem rounds_spec (c : Dev nD) :
    trL (ctx I K) c (([0, 1, 2, 3, 4, 5, 6, 7] : List (Fin 8)).flatMap fun n => chunks.flatMap (exchSeq c n))
      iprop(sepL (List.finRange 8) (fun n => sepL chunks (todo c n.succ)) ∗ (sepL chunks (flight I c 0) ∗ wts I c ∗ owR c (remP 0)))
      iprop(sepL (List.finRange 8) (fun n => sepL chunks (done c n.castSucc)) ∗ (sepL chunks (flight I c 8) ∗ wts I c ∗ owR c [])) := by
  have h := trL_range (C := ctx I K) (c := c) 8 (fun n => chunks.flatMap (exchSeq c n)) (fun n => sepL chunks (todo c n.succ))
    (fun n => sepL chunks (done c n.castSucc))
    (fun n => iprop(sepL chunks (flight I c n) ∗ wts I c ∗ owR c (remP n))) (round_spec I K c)
  exact h

/-- All chunks' last rounds and results. -/
theorem lasts_spec (c : Dev nD) :
    trL (ctx I K) c (chunks.flatMap lastSeq)
      iprop(sepL chunks (fun ci => iprop(flight I c 8 ci ∗ anyOwn c (oC ci))) ∗ owR c [])
      iprop(sepL chunks (fun ci => iprop(done c 8 ci ∗ accAny c ci ∗ owns (c : Thread nD τ) (oC ci) fullShare (outC I c ci))) ∗ owR c []) := by
  have h := trL_range (C := ctx I K) (c := c) 6 lastSeq (fun ci => iprop(flight I c 8 ci ∗ anyOwn c (oC ci)))
    (fun ci => iprop(done c 8 ci ∗ accAny c ci ∗ owns (c : Thread nD τ) (oC ci) fullShare (outC I c ci)))
    (fun _ => owR c []) (last_spec I K c)
  rw [← chunks_eq] at h
  exact h

/-- The signals. -/
theorem sigs_spec (c : Dev nD) (l : Owed) :
    trL (ctx I K) c (masks.map (sigStep c))
      iprop(sepL masks (fun j => iprop(tok0 (peer c j) .bar j ∗ barPay (peer c j) j)) ∗ ow c (masks.map (barX c) ++ l))
      iprop(sepL masks (fun _ => iprop(emp)) ∗ ow c l) :=
  trL_map _ _ _ (fun l' => ow c (l'.map (barX c) ++ l)) masks fun j l' hj =>
    (sig_spec I K c j hj (l'.map (barX c) ++ l)).post (by
      iintro H
      isplitr; · iempintro
      iexact H)

/-- The broadcasts. -/
theorem bcasts_spec (c : Dev nD) (l : Owed) :
    trL (ctx I K) c (masks.map (bcastStep c))
      iprop(sepL masks (fun j => iprop(fpts I c c (shareTok fullShare 8 j) ∗ anyOwn (peer c j) (fB c) ∗ tok0 c (.bs j) 0 ∗ tok0 (peer c j) (.br j) 0))
        ∗ ow c (masks.map (brX c) ++ l))
      iprop(sepL masks (fun j => crd c (.bs j) NB) ∗ ow c l) :=
  trL_map _ _ _ (fun l' => ow c (l'.map (brX c) ++ l)) masks fun j l' hj => bcast_spec I K c j hj (l'.map (brX c) ++ l)

/-- The waits for the broadcasts' sources. -/
theorem waitBcasts_spec (c : Dev nD) :
    trL (ctx I K) c (masks.map (waitBcastStep c))
      iprop(sepL masks (fun j => iprop(crd c (.bs j) NB ∗ at0 c (.bs j))) ∗ ow c [])
      iprop(sepL masks (fun j => iprop(zero c (.bs j) ∗ fpts I c c (shareTok fullShare 8 j))) ∗ ow c []) :=
  trL_map _ _ _ (fun _ => ow c []) masks fun j _ hj => waitBcast_spec I K c j hj

end Cert.Mlp

end
-- ==== Proof.Split.lean ====
/-
The body's buffers cut into the pieces its steps use, and the pieces put together again.
-/
module

public import proofs.«01_k».proof.Proof.Loops
public import Idealize.ShloMosaic.Lib.Ring

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] (I : Ins F) (K : Dev nD × CI → ℕ)

/-! ## Lists and index sets -/

theorem sepL_append {α : Type} (l l' : List α) (f : α → SP F) : sepL (l ++ l') f ⊣⊢ iprop(sepL l f ∗ sepL l' f) := by
  induction l with
  | nil => exact ⟨by iintro H; isplitr; · iempintro
                     iexact H, by iintro ⟨-, H⟩; iexact H⟩
  | cons a l ih =>
    rw [List.cons_append, sepL_cons, sepL_cons]
    refine ⟨?_, ?_⟩
    · iintro ⟨H1, H⟩
      ihave H := ih.1 $$ H
      icases H with ⟨H2, H3⟩
      isplitr [H3]; · isplitl [H1] <;> iassumption
      iexact H3
    · iintro ⟨⟨H1, H2⟩, H3⟩
      isplitl [H1]; · iexact H1
      iapply ih.2; isplitl [H2] <;> iassumption

theorem sepL_flat {α β : Type} (g : α → List β) (l : List α) (f : β → SP F) : sepL (l.flatMap g) f ⊣⊢ sepL l fun a => sepL (g a) f := by
  induction l with
  | nil => exact ⟨by iintro H; iexact H, by iintro H; iexact H⟩
  | cons a l ih =>
    rw [List.flatMap_cons, sepL_cons]
    refine ⟨(sepL_append _ _ _).1.trans ?_, BIBase.Entails.trans ?_ (sepL_append _ _ _).2⟩
    · iintro ⟨H1, H2⟩; isplitl [H1]; · iexact H1
      iapply ih.1; iexact H2
    · iintro ⟨H1, H2⟩; isplitl [H1]; · iexact H1
      iapply ih.2; iexact H2

theorem sepL_fin (n : ℕ) (f : Fin n → SP F) : bigSep Finset.univ f = sepL (List.finRange n) f := by
  rw [← sepL_eq (List.nodup_finRange n), List.toFinset_finRange]

/-- Over the devices: chunk by chunk. -/
theorem dev_chunks (f : Dev nD → SP F) : bigSep Finset.univ f ⊣⊢ sepL chunks fun ci => sepL (blocksAt ci) f := by
  rw [sepL_fin, show List.finRange 8 = chunks.flatMap blocksAt from by decide]
  exact sepL_flat _ _ _
/-- Over the masks: none, and the seven. -/
theorem mask_split (f : Fin 8 → SP F) : bigSep Finset.univ f = iprop(f 0 ∗ sepL masks f) := by
  rw [bs_split (0 : Fin 8), show Finset.univ.erase (0 : Fin 8) = masks.toFinset from by decide, sepL_eq (by decide)]
theorem peer_zero (c : Dev nD) : peer c 0 = c := by revert c; decide
def peerEquiv (c : Dev nD) : Fin 8 ≃ Dev nD where
  toFun j := peer c j
  invFun b := peer c b
  left_inv := peer_self c
  right_inv := peer_self c
/-- Over the devices: by their masks from `c`. -/
theorem dev_masks (c : Dev nD) (f : Dev nD → SP F) : bigSep Finset.univ f = iprop(f c ∗ sepL masks fun j => f (peer c j)) := by
  have h := mask_split fun j => f (peer c j)
  rw [peer_zero] at h
  rw [← h]
  exact (Idealize.SL.BI.bigSep_univ_equiv (peerEquiv c) f)

/-- Over the rounds and chunks: the first round and the later ones, -/
theorem ex_first (f : Fin 9 → Fin 6 → SP F) :
    bigSep Finset.univ (fun p : Fin 9 × Fin 6 => f p.1 p.2) = iprop(sepL chunks (f 0) ∗ sepL (List.finRange 8) fun n => sepL chunks (f n.succ)) := by
  rw [Idealize.SL.BI.bigSep_univ_prod, sepL_fin, List.finRange_succ, sepL_cons, sepL_map]
  simp only [sepL_fin, ← chunks_eq]
/-- and the earlier ones and the last. -/
theorem ex_last (f : Fin 9 → Fin 6 → SP F) :
    bigSep Finset.univ (fun p : Fin 9 × Fin 6 => f p.1 p.2) ⊣⊢ iprop(sepL (List.finRange 8) (fun n => sepL chunks (f n.castSucc)) ∗ sepL chunks (f 8)) := by
  rw [Idealize.SL.BI.bigSep_univ_prod, sepL_fin, List.finRange_succ_last]
  simp only [sepL_fin, ← chunks_eq]
  refine ⟨(sepL_append _ _ _).1.trans ?_, BIBase.Entails.trans ?_ (sepL_append _ _ _).2⟩ <;> rw [sepL_map, sepL_cons]
  · iintro ⟨H1, H2, -⟩; isplitl [H1]; · iexact H1
    iexact H2
  · iintro ⟨H1, H2⟩; isplitl [H1]; · iexact H1
    isplitl [H2]; · iexact H2
    iempintro

theorem atMask_list (f : Fin 8 → Fin 9 × Fin 6 → SP F) (l : List (Fin 8)) (hl : l.Nodup) :
    bigSep (Finset.univ.filter fun p : Fin 9 × Fin 6 => mask p.1 p.2 ∈ l) (fun p => f (mask p.1 p.2) p) = sepL l fun j => bigSep (atMask j) (f j) := by
  induction l with
  | nil => rw [show (Finset.univ.filter fun p : Fin 9 × Fin 6 => mask p.1 p.2 ∈ ([] : List (Fin 8))) = ∅ from by ext p; simp]; rfl
  | cons a l ih =>
    have hn := List.nodup_cons.mp hl
    rw [sepL_cons, ← ih hn.2, show (Finset.univ.filter fun p : Fin 9 × Fin 6 => mask p.1 p.2 ∈ a :: l) = atMask a ∪ Finset.univ.filter fun p => mask p.1 p.2 ∈ l from by
      ext p; simp [atMask], bs_union (Finset.disjoint_left.mpr fun p hp hq => hn.1 (by
        rw [← (Finset.mem_filter.mp hp).2]; exact (Finset.mem_filter.mp hq).2))]
    congr 1
    refine Idealize.SL.BI.bigSep_congr fun p hp => ?_
    rw [(Finset.mem_filter.mp hp).2]

/-- Over the exchanges: by their masks. -/
theorem ex_masks (f : Fin 8 → Fin 9 × Fin 6 → SP F) :
    bigSep Finset.univ (fun p : Fin 9 × Fin 6 => f (mask p.1 p.2) p) = sepL masks fun j => bigSep (atMask j) (f j) := by
  rw [← atMask_list f masks (by decide), show (Finset.univ.filter fun p : Fin 9 × Fin 6 => mask p.1 p.2 ∈ masks) = Finset.univ from by decide]

/-- Over a device's cells: by their kinds. -/
theorem ci_split (f : CI → SP F) :
    bigSep Finset.univ f = iprop(f .bar ∗ (bigSep Finset.univ (fun j => f (.bs j)) ∗ bigSep Finset.univ (fun j => f (.br j)))
      ∗ (bigSep Finset.univ (fun p => f (.sn p)) ∗ bigSep Finset.univ (fun p => f (.rv p)))) := by
  have h : bigSep Finset.univ f = iprop(bigSep Finset.univ (fun u : Unit => f (.inl u)) ∗ (bigSep Finset.univ (fun j => f (.bs j))
      ∗ bigSep Finset.univ (fun j => f (.br j))) ∗ (bigSep Finset.univ (fun p => f (.sn p)) ∗ bigSep Finset.univ (fun p => f (.rv p)))) := by
    rw [Idealize.SL.BI.bigSep_univ_sum, Idealize.SL.BI.bigSep_univ_sum, Idealize.SL.BI.bigSep_univ_sum, Idealize.SL.BI.bigSep_univ_sum]
    rfl
  rw [h, show (Finset.univ : Finset Unit) = {()} from rfl, Idealize.SL.BI.bigSep_singleton]

/-! ## Buffers and pieces -/

/-- A whole buffer of device `c`'s, whatever it holds. -/
def anyBuf (c : Dev nD) (b : Ref sig .tc) : SP F := iprop(∃ f : Buf (Elt F) ((c : Thread nD τ).loc b), ((c : Thread nD τ).loc b) ↦{fullShare} f)

theorem anyOwn_iff (c : Dev nD) {sp : Space} {s : Shape} {e : EltTy} (M : Memref sig .tc sp s e) :
    (iprop(∃ f, M.view.loc (c : Thread nD τ) ↦[M.view.set]{fullShare} f) : SP F) ⊣⊢ anyOwn c M := by
  unfold anyOwn
  refine ⟨?_, ?_⟩
  · iintro ⟨%f, H⟩
    iexists _
    iapply (owns_intro (c : Thread nD τ) M fullShare f); iexact H
  · unfold owns
    iintro ⟨%X, %f, -, H⟩
    iexists f; iexact H

/-- A buffer cut along disjoint pieces that cover it. -/
theorem cut {ℓ : Loc nD τ sig} {T : Type} [Fintype T] [DecidableEq T] (J : T → Finset (Idx ℓ)) (hd : ∀ t t', t ≠ t' → Disjoint (J t) (J t'))
    (hc : ∀ i, ∃ t, i ∈ J t) (G : T → SP F) (hG : ∀ t, (iprop(∃ f, ℓ ↦[J t]{fullShare} f) : SP F) ⊣⊢ G t) :
    (iprop(∃ f, ℓ ↦{fullShare} f) : SP F) ⊣⊢ bigSep Finset.univ G := by
  have hc' : Finset.univ.biUnion J = Finset.univ := by
    ext i; simp only [Finset.mem_biUnion, Finset.mem_univ, true_and, iff_true]; exact hc i
  have f₀ : Buf (Elt F) ℓ := fun _ => Classical.arbitrary _
  refine ⟨?_, (bs_mono fun t _ => (hG t).2).trans (Idealize.ShloMosaic.Ring.pointsTo_blocks_join_exists J hd hc' f₀)⟩
  iintro ⟨%f, H⟩
  ihave H := (BIBase.Entails.of_eq (Idealize.ShloMosaic.Ring.pointsTo_blocks J hd hc' f)) $$ H
  iapply (show bigSep Finset.univ (fun t => (ℓ ↦[J t]{fullShare} f : SP F)) ⊢ bigSep Finset.univ G from
    bs_mono fun t _ => BIBase.Entails.trans (by iintro H; iexists f; iexact H) (hG t).1)
  iexact H

/-- The elements of a block. -/
def bset (b : Dev nD) : Finset (S1024x128.Idx) := (fB b).view.set
theorem blocks_disj (b b' : Dev nD) (h : b ≠ b') : Disjoint (fB b).view.set (fB b').view.set := by
  rw [Finset.disjoint_left]
  intro i hi hi'
  have h1 := (mem_block b i).mp hi
  have h2 := (mem_block b' i).mp hi'
  exact h (Fin.ext (by omega))
theorem blocks_cover (i : S1024x128.Idx) : ∃ b : Dev nD, i ∈ (fB b).view.set :=
  have h : (i 0).val < 1024 := (i 0).isLt
  ⟨⟨(i 0).val / 128, (by omega : (i 0).val / 128 < 8)⟩, (mem_block _ i).mpr ⟨by show (i 0).val / 128 * 128 ≤ _; omega, by show _ < (i 0).val / 128 * 128 + 128; omega⟩⟩

/-- The gathered activations' buffer, block by block. -/
theorem cut_f (c : Dev nD) : anyBuf (F := F) c cc0_scratch0 ⊣⊢ bigSep Finset.univ fun b => anyOwn c (fB b) :=
  cut (ℓ := (c : Thread nD τ).loc cc0_scratch0) (fun b => (fB b).view.set) blocks_disj blocks_cover _ fun b => anyOwn_iff c (fB b)

/-- A row belongs to one chunk. -/
theorem row_chunk (r : ℕ) (h : r < 1024) : ∃ ci : Fin 6, roff ci ≤ r ∧ r < roff ci + rows ci := by
  by_cases h0 : r < 176; · exact ⟨0, by show 0 ≤ r ∧ r < 0 + 176; omega⟩
  by_cases h1 : r < 352; · exact ⟨1, by show 176 ≤ r ∧ r < 176 + 176; omega⟩
  by_cases h2 : r < 528; · exact ⟨2, by show 352 ≤ r ∧ r < 352 + 176; omega⟩
  by_cases h3 : r < 704; · exact ⟨3, by show 528 ≤ r ∧ r < 528 + 176; omega⟩
  by_cases h4 : r < 864; · exact ⟨4, by show 704 ≤ r ∧ r < 704 + 160; omega⟩
  exact ⟨5, by show 864 ≤ r ∧ r < 864 + 160; omega⟩
theorem row_unique (r : ℕ) (ci ci' : Fin 6) (h : roff ci ≤ r ∧ r < roff ci + rows ci) (h' : roff ci' ≤ r ∧ r < roff ci' + rows ci') : ci = ci' := by
  have hs : ∀ ci ci' : Fin 6, ci ≠ ci' → roff ci + rows ci ≤ roff ci' ∨ roff ci' + rows ci' ≤ roff ci := by decide
  by_contra hne
  rcases hs ci ci' hne with h1 | h1 <;> omega

/-- The elements of one round's chunk in a buffer of rounds, -/
theorem mem_S (n : Fin 9) (ci : Fin 6) (i : S9x1024x128.Idx) : i ∈ (rS n ci).set ↔ (i 0).val = n.val ∧ roff ci ≤ (i 1).val ∧ (i 1).val < roff ci + rows ci := by
  have h2 : (i 2).val < 128 := (i 2).isLt
  rw [Rect.mem_set_unit]
  constructor
  · intro h
    have h0 := h 0; have h1 := h 1
    change n.val ≤ (i 0).val ∧ (i 0).val < n.val + 1 at h0
    change roff ci ≤ (i 1).val ∧ (i 1).val < roff ci + rows ci at h1
    omega
  · rintro ⟨h0, h1⟩ a
    match a with
    | ⟨0, _⟩ => show n.val ≤ (i 0).val ∧ (i 0).val < n.val + 1; omega
    | ⟨1, _⟩ => exact h1
    | ⟨2, _⟩ => show 0 ≤ (i 2).val ∧ (i 2).val < 0 + 128; omega
/-- of one layer's chunk in the buffer of sums, -/
theorem mem_A (k : Fin 3) (ci : Fin 6) (i : S3x1024x128.Idx) : i ∈ (rA k ci).set ↔ (i 0).val = k.val ∧ roff ci ≤ (i 1).val ∧ (i 1).val < roff ci + rows ci := by
  have h2 : (i 2).val < 128 := (i 2).isLt
  rw [Rect.mem_set_unit]
  constructor
  · intro h
    have h0 := h 0; have h1 := h 1
    change k.val ≤ (i 0).val ∧ (i 0).val < k.val + 1 at h0
    change roff ci ≤ (i 1).val ∧ (i 1).val < roff ci + rows ci at h1
    omega
  · rintro ⟨h0, h1⟩ a
    match a with
    | ⟨0, _⟩ => show k.val ≤ (i 0).val ∧ (i 0).val < k.val + 1; omega
    | ⟨1, _⟩ => exact h1
    | ⟨2, _⟩ => show 0 ≤ (i 2).val ∧ (i 2).val < 0 + 128; omega
/-- of one chunk in the result. -/
theorem mem_X (ci : Fin 6) (i : S1024x128.Idx) : i ∈ (rX ci).set ↔ roff ci ≤ (i 0).val ∧ (i 0).val < roff ci + rows ci := by
  have h1 : (i 1).val < 128 := (i 1).isLt
  rw [Rect.mem_set_unit]
  constructor
  · intro h; exact h 0
  · rintro h a
    match a with
    | ⟨0, _⟩ => exact h
    | ⟨1, _⟩ => show 0 ≤ (i 1).val ∧ (i 1).val < 0 + 128; omega

theorem S_disj (p p' : Fin 9 × Fin 6) (h : p ≠ p') : Disjoint (rS p.1 p.2).set (rS p'.1 p'.2).set := by
  rw [Finset.disjoint_left]
  intro i hi hi'
  obtain ⟨a, b⟩ := (mem_S _ _ i).mp hi
  obtain ⟨a', b'⟩ := (mem_S _ _ i).mp hi'
  exact h (Prod.ext (Fin.ext (a.symm.trans a')) (row_unique _ _ _ b b'))
theorem S_cover (i : S9x1024x128.Idx) : ∃ p : Fin 9 × Fin 6, i ∈ (rS p.1 p.2).set := by
  obtain ⟨ci, h⟩ := row_chunk (i 1).val (i 1).isLt
  exact ⟨(⟨(i 0).val, (i 0).isLt⟩, ci), (mem_S _ _ i).mpr ⟨rfl, h⟩⟩
theorem A_disj (p p' : Fin 3 × Fin 6) (h : p ≠ p') : Disjoint (rA p.1 p.2).set (rA p'.1 p'.2).set := by
  rw [Finset.disjoint_left]
  intro i hi hi'
  obtain ⟨a, b⟩ := (mem_A _ _ i).mp hi
  obtain ⟨a', b'⟩ := (mem_A _ _ i).mp hi'
  exact h (Prod.ext (Fin.ext (a.symm.trans a')) (row_unique _ _ _ b b'))
theorem A_cover (i : S3x1024x128.Idx) : ∃ p : Fin 3 × Fin 6, i ∈ (rA p.1 p.2).set := by
  obtain ⟨ci, h⟩ := row_chunk (i 1).val (i 1).isLt
  exact ⟨(⟨(i 0).val, (i 0).isLt⟩, ci), (mem_A _ _ i).mpr ⟨rfl, h⟩⟩
theorem X_disj (ci ci' : Fin 6) (h : ci ≠ ci') : Disjoint (rX ci).set (rX ci').set := by
  rw [Finset.disjoint_left]
  intro i hi hi'
  exact h (row_unique _ _ _ ((mem_X _ i).mp hi) ((mem_X _ i).mp hi'))
theorem X_cover (i : S1024x128.Idx) : ∃ ci : Fin 6, i ∈ (rX ci).set := by
  obtain ⟨ci, h⟩ := row_chunk (i 0).val (i 0).isLt
  exact ⟨ci, (mem_X _ i).mpr h⟩

/-- A rectangle of a whole buffer, its unit axis dropped, held at anything. -/
theorem anyOwn_sq (c : Dev nD) (b : Ref sig .tc) {sp : Space} {sh s' : Shape} {e : EltTy} (M : Memref sig .tc sp sh e) (r : Rect sh)
    (hr : ∀ a, r.stride a = 1) (hs : r.shape.Squeezes s') :
    (iprop(∃ f, M.view.loc (c : Thread nD τ) ↦[(M.view.slice r).set]{fullShare} f) : SP F) ⊣⊢ anyOwn c ((M.slice r hr).squeeze s' hs) := by
  have h := anyOwn_iff (F := F) c ((M.slice r hr).squeeze s' hs)
  have e : ((M.slice r hr).squeeze s' hs).view.set = (M.view.slice r).set := View.set_reshape _ _
  rw [e] at h
  exact h

theorem oC_set (ci : Fin 6) : (oC ci).view.set = (rX ci).set := by
  show ((View.whole cc0_stg7_0).slice (rX ci)).set = _
  rw [View.set_slice_whole]

/-- The elements of a piece of the send buffer. -/
def sset (p : Fin 9 × Fin 6) : Finset S9x1024x128.Idx := (sM.view.slice (rS p.1 p.2)).set
theorem sset_eq (p : Fin 9 × Fin 6) : sset p = (rS p.1 p.2).set := View.set_slice_whole _ _
theorem sset_disj (p p' : Fin 9 × Fin 6) (h : p ≠ p') : Disjoint (sset p) (sset p') := by rw [sset_eq, sset_eq]; exact S_disj p p' h
theorem sset_cover (i : S9x1024x128.Idx) : ∃ p, i ∈ sset p := by simp only [sset_eq]; exact S_cover i
/-- The elements of a piece of the receive buffer. -/
def rset (p : Fin 9 × Fin 6) : Finset S9x1024x128.Idx := (rM.view.slice (rS p.1 p.2)).set
theorem rset_eq (p : Fin 9 × Fin 6) : rset p = (rS p.1 p.2).set := View.set_slice_whole _ _
theorem rset_disj (p p' : Fin 9 × Fin 6) (h : p ≠ p') : Disjoint (rset p) (rset p') := by rw [rset_eq, rset_eq]; exact S_disj p p' h
theorem rset_cover (i : S9x1024x128.Idx) : ∃ p, i ∈ rset p := by simp only [rset_eq]; exact S_cover i
/-- The elements of a piece of the sums. -/
def aset (p : Fin 3 × Fin 6) : Finset S3x1024x128.Idx := (aM.view.slice (rA p.1 p.2)).set
theorem aset_eq (p : Fin 3 × Fin 6) : aset p = (rA p.1 p.2).set := View.set_slice_whole _ _
theorem aset_disj (p p' : Fin 3 × Fin 6) (h : p ≠ p') : Disjoint (aset p) (aset p') := by rw [aset_eq, aset_eq]; exact A_disj p p' h
theorem aset_cover (i : S3x1024x128.Idx) : ∃ p, i ∈ aset p := by simp only [aset_eq]; exact A_cover i
/-- The elements of a chunk of the result. -/
def oset (ci : Fin 6) : Finset S1024x128.Idx := (oC ci).view.set
theorem oset_disj (ci ci' : Fin 6) (h : ci ≠ ci') : Disjoint (oset ci) (oset ci') := by unfold oset; rw [oC_set, oC_set]; exact X_disj ci ci' h
theorem oset_cover (i : S1024x128.Idx) : ∃ ci, i ∈ oset ci := by
  obtain ⟨ci, h⟩ := X_cover i
  exact ⟨ci, by unfold oset; rw [oC_set]; exact h⟩

/-- The send buffer, -/
theorem sC_any (c : Dev nD) (p : Fin 9 × Fin 6) : (iprop(∃ f, ((c : Thread nD τ).loc cc0_scratch2) ↦[sset p]{fullShare} f) : SP F) ⊣⊢ anyOwn c (sC p.1 p.2) :=
  anyOwn_sq c cc0_scratch2 sM (rS p.1 p.2) (fun _ => rfl) (squeezes_C p.2)
theorem cut_s (c : Dev nD) : anyBuf (F := F) c cc0_scratch2 ⊣⊢ bigSep Finset.univ fun p : Fin 9 × Fin 6 => anyOwn c (sC p.1 p.2) :=
  cut (ℓ := (c : Thread nD τ).loc cc0_scratch2) sset sset_disj sset_cover (fun p => anyOwn c (sC p.1 p.2)) (sC_any c)
/-- the receive buffer, -/
theorem rC_any (c : Dev nD) (p : Fin 9 × Fin 6) : (iprop(∃ f, ((c : Thread nD τ).loc cc0_scratch3) ↦[rset p]{fullShare} f) : SP F) ⊣⊢ anyOwn c (rC p.1 p.2) :=
  anyOwn_sq c cc0_scratch3 rM (rS p.1 p.2) (fun _ => rfl) (squeezes_C p.2)
theorem cut_r (c : Dev nD) : anyBuf (F := F) c cc0_scratch3 ⊣⊢ bigSep Finset.univ fun p : Fin 9 × Fin 6 => anyOwn c (rC p.1 p.2) :=
  cut (ℓ := (c : Thread nD τ).loc cc0_scratch3) rset rset_disj rset_cover (fun p => anyOwn c (rC p.1 p.2)) (rC_any c)
/-- the result. -/
theorem oC_any (c : Dev nD) (ci : Fin 6) : (iprop(∃ f, ((c : Thread nD τ).loc cc0_stg7_0) ↦[oset ci]{fullShare} f) : SP F) ⊣⊢ anyOwn c (oC ci) := anyOwn_iff c (oC ci)
theorem cut_o (c : Dev nD) : anyBuf (F := F) c cc0_stg7_0 ⊣⊢ bigSep Finset.univ fun ci : Fin 6 => anyOwn c (oC ci) :=
  cut (ℓ := (c : Thread nD τ).loc cc0_stg7_0) oset oset_disj oset_cover (fun ci => anyOwn c (oC ci)) (oC_any c)
/-- The sums, layer by layer, -/
theorem aC_any (c : Dev nD) (p : Fin 3 × Fin 6) : (iprop(∃ f, ((c : Thread nD τ).loc cc0_scratch1) ↦[aset p]{fullShare} f) : SP F) ⊣⊢ anyOwn c (aC p.1 p.2) :=
  anyOwn_sq c cc0_scratch1 aM (rA p.1 p.2) (fun _ => rfl) (squeezes_C p.2)
theorem cut_a' (c : Dev nD) : anyBuf (F := F) c cc0_scratch1 ⊣⊢ bigSep Finset.univ fun p : Fin 3 × Fin 6 => anyOwn c (aC p.1 p.2) :=
  cut (ℓ := (c : Thread nD τ).loc cc0_scratch1) aset aset_disj aset_cover (fun p => anyOwn c (aC p.1 p.2)) (aC_any c)
/-- and chunk by chunk. -/
theorem cut_a (c : Dev nD) : anyBuf (F := F) c cc0_scratch1 ⊣⊢ sepL chunks fun ci => accAny c ci := by
  have h : ∀ ci, accAny (F := F) c ci ⊣⊢ bigSep Finset.univ fun k => anyOwn c (aC k ci) := fun ci => by
    unfold accAny accV anyOwn
    have : Nonempty (FVec F (SC ci) .f32) := ⟨fun _ => Classical.choice (Elt.nonempty F .f32)⟩
    refine ⟨?_, Idealize.SL.BI.bigSep_exists_pi Finset.univ (fun k (v : FVec F (SC ci) .f32) => (owns (c : Thread nD τ) (aC k ci) fullShare v : SP F))⟩
    iintro ⟨%v, H⟩
    iapply (show bigSep Finset.univ (fun k => (owns (c : Thread nD τ) (aC k ci) fullShare (v k) : SP F))
        ⊢ bigSep Finset.univ (fun k => iprop(∃ X, owns (c : Thread nD τ) (aC k ci) fullShare X)) from
      bs_mono fun k _ => by iintro H; iexists (v k); iexact H)
    iexact H
  have e : bigSep Finset.univ (fun p : Fin 3 × Fin 6 => anyOwn (F := F) c (aC p.1 p.2))
      = sepL chunks fun ci => bigSep Finset.univ fun k => anyOwn (F := F) c (aC k ci) := by
    rw [chunks_eq, ← sepL_fin, ← Idealize.SL.BI.bigSep_univ_prod (fun p : Fin 6 × Fin 3 => anyOwn (F := F) c (aC p.2 p.1)),
      Idealize.SL.BI.bigSep_univ_equiv (Equiv.prodComm (Fin 6) (Fin 3)) (fun p : Fin 3 × Fin 6 => anyOwn (F := F) c (aC p.1 p.2))]
    rfl
  refine ⟨(cut_a' c).1.trans ?_, BIBase.Entails.trans ?_ (cut_a' c).2⟩ <;> rw [e]
  · exact sepL_mono _ fun ci => (h ci).2
  · exact sepL_mono _ fun ci => (h ci).1

/-! ## The result -/

theorem X_row (ci : Fin 6) (j : (SC ci).Idx) : ((rX ci).emb j 0).val = roff ci + (j 0).val := by
  rw [Rect.emb_apply]; show roff ci + 1 * (j 0).val = _; omega
theorem X_col (ci : Fin 6) (j : (SC ci).Idx) : ((rX ci).emb j 1).val = (j 1).val := by
  rw [Rect.emb_apply]; show 0 + 1 * (j 1).val = _; omega
theorem X_mem (ci : Fin 6) (j : (SC ci).Idx) : roff ci ≤ ((rX ci).emb j 0).val ∧ ((rX ci).emb j 0).val < roff ci + rows ci := by
  have h : (j 0).val < rows ci := (j 0).isLt
  rw [X_row]; omega
/-- An element of the result is an element of one chunk. -/
theorem X_exists (i : S1024x128.Idx) : ∃ ci, ∃ j : (SC ci).Idx, (rX ci).emb j = i := by
  obtain ⟨ci, h⟩ := row_chunk (i 0).val (i 0).isLt
  refine ⟨ci, fun a => match a with
    | ⟨0, _⟩ => ⟨(i 0).val - roff ci, by show _ < rows ci; omega⟩
    | ⟨1, _⟩ => ⟨(i 1).val, (i 1).isLt⟩, funext fun a => Fin.ext ?_⟩
  match a with
  | ⟨0, _⟩ => refine (X_row ci _).trans ?_; show roff ci + ((i 0).val - roff ci) = (i 0).val; omega
  | ⟨1, _⟩ => exact X_col ci _

theorem out_exists (c : Dev nD) : ∃ X : FVec F S1024x128 .f32, ∀ ci j, X ((rX ci).emb j) = outC I c ci j := by
  classical
  refine ⟨fun i => outC I c (X_exists i).choose (X_exists i).choose_spec.choose, fun ci j => ?_⟩
  have key : ∀ (ci' : Fin 6) (j' : (SC ci').Idx), (rX ci').emb j' = (rX ci).emb j → outC I c ci' j' = outC I c ci j := by
    intro ci' j' h
    obtain rfl : ci' = ci := row_unique _ _ _ (X_mem ci' j') (h ▸ X_mem ci j)
    rw [(rX ci').emb.injective h]
  exact key _ _ (X_exists ((rX ci).emb j)).choose_spec.choose_spec

/-- What the kernel leaves in the result on device `c`: chunk by chunk. -/
def out (c : Dev nD) : FVec F S1024x128 .f32 := (out_exists I c).choose
theorem out_chunk (c : Dev nD) (ci : Fin 6) (j : (SC ci).Idx) : out I c ((rX ci).emb j) = outC I c ci j := (out_exists I c).choose_spec ci j

theorem join_o (c : Dev nD) :
    sepL chunks (fun ci => (owns (c : Thread nD τ) (oC ci) fullShare (outC I c ci) : SP F)) ⊢ owns (c : Thread nD τ) oM fullShare (out I c) := by
  rw [chunks_eq, ← sepL_fin]
  have h := owns_of_rects (Val := Elt F) (U := UU) (Ix := Unit) (Name := ℕ) (Lvl := ℕ) (c : Thread nD τ) oM fullShare (fun ci : Fin 6 => rX ci) (fun ci a => rfl) X_disj
    (by ext i; simp only [Finset.mem_biUnion, Finset.mem_univ, true_and, iff_true]; exact X_cover i) (out I c)
  refine BIBase.Entails.trans (BIBase.Entails.of_eq ?_) h
  refine Idealize.SL.BI.bigSep_congr fun ci _ => ?_
  exact congrArg (owns (c : Thread nD τ) (oC ci) fullShare) (funext fun j => (out_chunk I c ci j).symm)

/-- The gathered activations put together again. -/
theorem join_f (c : Dev nD) : iprop(gath I c 8 ∗ bigSep Finset.univ fun b => toks I c b) ⊢ anyBuf (F := F) c cc0_scratch0 := by
  have hc : Finset.univ.biUnion bset = Finset.univ := by
    ext i; simp only [Finset.mem_biUnion, Finset.mem_univ, true_and, iff_true]; exact blocks_cover i
  have h8 : rowsTo 8 = Finset.univ := by
    ext i; rw [mem_rowsTo]; have h : (i 0).val < 1024 := (i 0).isLt
    simp only [Finset.mem_univ, iff_true]; omega
  have hg : gath I c 8 = bigSep Finset.univ fun b => fpts I c b (shareDrop fullShare 8) := by
    unfold gath fpts
    rw [h8]
    exact Idealize.ShloMosaic.Ring.pointsTo_blocks (ℓ := (c : Thread nD τ).loc cc0_scratch0) bset blocks_disj hc (XF I)
  rw [hg, ← bs_sep]
  refine (bs_mono fun b _ => (fpts_toks I c b).2).trans ?_
  unfold anyBuf fpts
  iintro H
  iexists (XF I)
  iapply (show _ ⊢ _ from BIBase.Entails.of_eq (Idealize.ShloMosaic.Ring.pointsTo_blocks (Ix := Unit) (U := UU) (Name := ℕ) (Lvl := ℕ) (q := fullShare) (ℓ := (c : Thread nD τ).loc cc0_scratch0) bset blocks_disj hc (XF I)).symm)
  iexact H

end Cert.Mlp

end
-- ==== Proof.Body.lean ====
/-
The body from what a device is given to what it leaves.
-/
module

public import proofs.«01_k».proof.Proof.Split

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] (I : Ins F) (K : Dev nD × CI → ℕ)

theorem sepL_congr {α : Type} (l : List α) (f g : α → SP F) (h : ∀ a ∈ l, f a = g a) : sepL l f = sepL l g := by
  induction l with
  | nil => rfl
  | cons a l ih => rw [sepL_cons, sepL_cons, h a List.mem_cons_self, ih fun b hb => h b (List.mem_cons_of_mem _ hb)]

/-! ## To the barrier and past it -/

theorem barPay_peer (c : Dev nD) (j : Fin 8) :
    barPay (F := F) (peer c j) j = iprop(anyOwn c (fB (peer c j)) ∗ bigSep (atMask j) fun p => anyOwn c (rC p.1 p.2)) := by
  unfold barPay; rw [peer_peer]

/-- The places for the peers' blocks and chunks, by peer. -/
theorem places_split (c : Dev nD) :
    iprop(anyBuf (F := F) c cc0_scratch0 ∗ anyBuf c cc0_scratch3) ⊢ iprop(anyOwn c (fB c) ∗ sepL masks fun j => barPay (peer c j) j) := by
  rw [sepL_congr masks (fun j => barPay (F := F) (peer c j) j) _ fun j _ => barPay_peer c j]
  iintro ⟨Hf, Hr⟩
  ihave Hf := (cut_f c).1 $$ Hf
  ihave Hf := (BIBase.Entails.of_eq (dev_masks c fun b => anyOwn (F := F) c (fB b))) $$ Hf
  ihave Hr := (cut_r c).1 $$ Hr
  ihave Hr := (BIBase.Entails.of_eq (ex_masks fun _ p => anyOwn (F := F) c (rC p.1 p.2))) $$ Hr
  icases Hf with ⟨H0, Hf⟩
  isplitl [H0]; · iexact H0
  iapply (sepL_sep masks (fun j => anyOwn (F := F) c (fB (peer c j))) fun j => bigSep (atMask j) fun p => anyOwn (F := F) c (rC p.1 p.2)).2
  isplitl [Hf]; · iexact Hf
  iexact Hr

/-- What the barrier brings: the places at the peers. -/
theorem places_got (c : Dev nD) :
    sepL masks (barPay (F := F) c) ⊢ iprop(sepL masks (fun j => anyOwn (F := F) (peer c j) (fB c))
      ∗ bigSep Finset.univ fun p : Fin 9 × Fin 6 => anyOwn (F := F) (peer c (mask p.1 p.2)) (rC p.1 p.2)) := by
  refine (sepL_sep masks (fun j => anyOwn (F := F) (peer c j) (fB c)) fun j => bigSep (atMask j) fun p => anyOwn (F := F) (peer c j) (rC p.1 p.2)).1.trans ?_
  rw [ex_masks fun j p => anyOwn (F := F) (peer c j) (rC p.1 p.2)]

/-- The signals, the barrier, and the own block in place. -/
theorem gather_spec (c : Dev nD) :
    trL (ctx I K) c (masks.map (sigStep c) ++ [barStep, copyStep c])
      iprop((sepL masks (fun j => tok0 (peer c j) .bar j) ∗ anyBuf c cc0_scratch0 ∗ anyBuf c cc0_scratch3 ∗ crd c .bar 7 ∗ at0 c .bar
        ∗ owns (c : Thread nD τ) xM fullShare (I.x c)) ∗ ow c (owed₀ c))
      iprop((zero c .bar ∗ sepL masks (fun j => anyOwn (peer c j) (fB c))
        ∗ (bigSep Finset.univ fun p : Fin 9 × Fin 6 => anyOwn (peer c (mask p.1 p.2)) (rC p.1 p.2))
        ∗ owns (c : Thread nD τ) xM fullShare (I.x c) ∗ fpts I c c fullShare) ∗ ow c (masks.map (brX c) ++ sends.map (rvX c))) := by
  have hl : ∀ x ∈ masks.map (brX c) ++ sends.map (rvX c), 1 < cLev x.1.2 := by
    intro x hx
    rcases List.mem_append.mp hx with h | h
    · obtain ⟨j, -, rfl⟩ := List.mem_map.mp h
      exact Nat.lt_succ_self 1
    · exact lev_rv c sends 1 (fun p _ => by omega) x h
  refine trL_append (((sigs_spec I K c (masks.map (brX c) ++ sends.map (rvX c))).frame
      (R := iprop(anyOwn c (fB c) ∗ crd c .bar 7 ∗ at0 c .bar ∗ owns (c : Thread nD τ) xM fullShare (I.x c)))).pre ?_)
    (trL_cons (((bar_spec I K c _ hl).frame (R := iprop(anyOwn c (fB c) ∗ owns (c : Thread nD τ) xM fullShare (I.x c)))).pre ?_)
      (trL_cons (((copy_own I c (ctx I K)).frame (R := iprop(zero c .bar ∗ sepL masks (barPay c) ∗ ow c (masks.map (brX c) ++ sends.map (rvX c))))).pre ?_ |>.post ?_) trL_nil))
  · iintro ⟨⟨Ht, Hf, Hr, Hc, Ha, Hx⟩, HO⟩
    ihave H := (places_split (F := F) c) $$ [Hf Hr]
    · isplitl [Hf] <;> iassumption
    icases H with ⟨H0, Hp⟩
    isplitl [Ht Hp HO]
    · isplitr [HO]
      · iapply (sepL_sep masks (fun j => tok0 (F := F) (peer c j) .bar j) fun j => barPay (F := F) (peer c j) j).2
        isplitl [Ht]; · iexact Ht
        iexact Hp
      unfold owed₀; iexact HO
    isplitl [H0]; · iexact H0
    isplitl [Hc]; · iexact Hc
    isplitl [Ha] <;> iassumption
  · iintro ⟨⟨-, HO⟩, H0, Hc, Ha, Hx⟩
    isplitl [Hc Ha HO]
    · isplitr [HO]
      · isplitl [Hc] <;> iassumption
      iexact HO
    isplitl [H0] <;> iassumption
  · iintro ⟨⟨⟨Hz, Hb⟩, HO⟩, H0, Hx⟩
    isplitl [H0 Hx]; · isplitl [Hx] <;> iassumption
    isplitl [Hz]; · iexact Hz
    isplitl [Hb] <;> iassumption
  · iintro ⟨⟨Hx, Hf⟩, Hz, Hb, HO⟩
    ihave Hb := (places_got (F := F) c) $$ Hb
    icases Hb with ⟨Hb, Hr⟩
    isplitr [HO]
    · isplitl [Hz]; · iexact Hz
      isplitl [Hb]; · iexact Hb
      isplitl [Hr]; · iexact Hr
      isplitl [Hx] <;> iassumption
    iexact HO

/-! ## The broadcasts and the starts -/

theorem ne_peer (c : Dev nD) (j : Fin 8) (hj : j ∈ masks) : c ≠ peer c j := by revert hj; revert c j; decide

theorem blkIn_peer (c : Dev nD) : ∀ j ∈ masks, blkIn I c (peer c j) = iprop(crd c (.br j) NB ∗ at0 c (.br j)) := fun j hj => by
  unfold blkIn; rw [if_neg (ne_peer c j hj), peer_self]
theorem blkOut_peer (c : Dev nD) : ∀ j ∈ masks, blkOut I c (peer c j) = iprop(zero c (.br j) ∗ toks I c (peer c j)) := fun j hj => by
  unfold blkOut; rw [if_neg (ne_peer c j hj), peer_self]

theorem blkIn_all (c : Dev nD) :
    iprop(fpts I c c (shareDrop fullShare 8) ∗ sepL masks (fun j => crd c (.br j) NB) ∗ sepL masks (fun j => at0 c (.br j)))
      ⊢ sepL chunks fun ci => sepL (blocksAt ci) (blkIn I c) := by
  refine BIBase.Entails.trans ?_ (dev_chunks (blkIn I c)).1
  rw [dev_masks c (blkIn I c), sepL_congr masks _ _ (blkIn_peer I c), show blkIn I c c = fpts I c c (shareDrop fullShare 8) from if_pos rfl]
  iintro ⟨H0, H1, H2⟩
  isplitl [H0]; · iexact H0
  iapply (sepL_sep masks (fun j => crd (F := F) c (.br j) NB) fun j => at0 (F := F) c (.br j)).2
  isplitl [H1] <;> iassumption
theorem blkOut_all (c : Dev nD) :
    sepL chunks (fun ci => sepL (blocksAt ci) (blkOut I c))
      ⊢ iprop(sepL masks (fun j => zero c (.br j)) ∗ sepL masks (fun j => toks I c (peer c j))) := by
  refine (dev_chunks (blkOut I c)).2.trans ?_
  rw [dev_masks c (blkOut I c), sepL_congr masks _ _ (blkOut_peer I c)]
  iintro ⟨-, H⟩
  iapply (sepL_sep masks (fun j => zero (F := F) c (.br j)) fun j => toks I c (peer c j)).1
  iexact H

/-- The own block broadcast, and every chunk started. -/
theorem scatter_spec (c : Dev nD) :
    trL (ctx I K) c (masks.map (bcastStep c) ++ chunks.flatMap (startSeq c))
      iprop((fpts I c c fullShare ∗ sepL masks (fun j => anyOwn (peer c j) (fB c))
        ∗ sepL masks (fun j => iprop(tok0 c (.bs j) 0 ∗ tok0 (peer c j) (.br j) 0))
        ∗ sepL masks (fun j => crd c (.br j) NB) ∗ sepL masks (fun j => at0 c (.br j))
        ∗ anyBuf c cc0_scratch1 ∗ sepL chunks (todo c 0) ∗ wts I c) ∗ ow c (masks.map (brX c) ++ sends.map (rvX c)))
      iprop((sepL masks (fun j => crd c (.bs j) NB) ∗ fpts I c c (shareTok fullShare 8 0)
        ∗ sepL masks (fun j => zero c (.br j)) ∗ sepL masks (fun j => toks I c (peer c j))
        ∗ sepL chunks (flight I c 0) ∗ gath I c 8 ∗ wts I c) ∗ owR c (remP 0)) := by
  refine trL_append (((bcasts_spec I K c (sends.map (rvX c))).frame
      (R := iprop(fpts I c c (shareDrop fullShare 8) ∗ fpts I c c (shareTok fullShare 8 0) ∗ sepL masks (fun j => crd c (.br j) NB) ∗ sepL masks (fun j => at0 c (.br j))
        ∗ anyBuf c cc0_scratch1 ∗ sepL chunks (todo c 0) ∗ wts I c))).pre ?_)
    (((starts_spec I K c).frame (R := iprop(sepL masks (fun j => crd c (.bs j) NB) ∗ fpts I c c (shareTok fullShare 8 0)))).pre ?_ |>.post ?_)
  · iintro ⟨⟨Hf, Hp, Ht, Hc, Ha, Hs, Hd, Hw⟩, HO⟩
    ihave Hf := (fpts_toks I c c).1 $$ Hf
    icases Hf with ⟨Hf, Hk⟩
    ihave Hk := (show toks I c c ⊢ _ from BIBase.Entails.of_eq (mask_split fun j => fpts I c c (shareTok fullShare 8 j))) $$ Hk
    icases Hk with ⟨H0, Hk⟩
    isplitl [Hk Hp Ht HO]
    · isplitr [HO]
      · iapply (sepL_sep masks (fun j => fpts I c c (shareTok fullShare 8 j)) fun j => iprop(anyOwn (F := F) (peer c j) (fB c) ∗ tok0 c (.bs j) 0 ∗ tok0 (peer c j) (.br j) 0)).2
        isplitl [Hk]; · iexact Hk
        iapply (sepL_sep masks (fun j => anyOwn (F := F) (peer c j) (fB c)) fun j => iprop(tok0 (F := F) c (.bs j) 0 ∗ tok0 (peer c j) (.br j) 0)).2
        isplitl [Hp] <;> iassumption
      iexact HO
    isplitl [Hf]; · iexact Hf
    isplitl [H0]; · iexact H0
    isplitl [Hc]; · iexact Hc
    isplitl [Ha]; · iexact Ha
    isplitl [Hs]; · iexact Hs
    isplitl [Hd] <;> iassumption
  · iintro ⟨⟨Hb, HO⟩, Hf, H0, Hc, Ha, Hs, Hd, Hw⟩
    isplitr [Hb H0]
    · isplitl [Hf Hc Ha Hs Hd]
      · iapply (sepL_sep chunks (fun ci => sepL (blocksAt ci) (blkIn I c)) fun ci => iprop(accAny (F := F) c ci ∗ todo c 0 ci)).2
        isplitl [Hf Hc Ha]
        · iapply (blkIn_all I c)
          isplitl [Hf]; · iexact Hf
          isplitl [Hc] <;> iassumption
        iapply (sepL_sep chunks (fun ci => accAny (F := F) c ci) fun ci => todo c 0 ci).2
        isplitl [Hs]; · iapply (cut_a c).1; iexact Hs
        iexact Hd
      isplitr
      · iapply (gath_zero I c); iempintro
      isplitl [Hw]; · iexact Hw
      unfold owR; iexact HO
    isplitl [Hb] <;> iassumption
  · iintro ⟨⟨H, Hg, Hw, HO⟩, Hb, H0⟩
    ihave H := (sepL_sep chunks (fun ci => sepL (blocksAt ci) (blkOut I c)) fun ci => flight I c 0 ci).1 $$ H
    icases H with ⟨H, Hf⟩
    ihave H := (blkOut_all I c) $$ H
    icases H with ⟨Hz, Ht⟩
    isplitr [HO]
    · isplitl [Hb]; · iexact Hb
      isplitl [H0]; · iexact H0
      isplitl [Hz]; · iexact Hz
      isplitl [Ht]; · iexact Ht
      isplitl [Hf]; · iexact Hf
      isplitl [Hg] <;> iassumption
    iexact HO

/-! ## The exchanges and the results -/

theorem exchange_spec (c : Dev nD) :
    trL (ctx I K) c ((([0, 1, 2, 3, 4, 5, 6, 7] : List (Fin 8)).flatMap fun n => chunks.flatMap (exchSeq c n)) ++ chunks.flatMap lastSeq)
      iprop((sepL (List.finRange 8) (fun n => sepL chunks (todo c n.succ)) ∗ sepL chunks (flight I c 0) ∗ wts I c ∗ anyBuf c cc0_stg7_0) ∗ owR c (remP 0))
      iprop(((bigSep Finset.univ fun p : Fin 9 × Fin 6 => done c p.1 p.2) ∗ wts I c ∗ anyBuf c cc0_scratch1
        ∗ owns (c : Thread nD τ) oM fullShare (out I c)) ∗ ow c []) := by
  refine trL_append (((rounds_spec I K c).frame (R := anyBuf c cc0_stg7_0)).pre ?_)
    (((lasts_spec I K c).frame (R := iprop(sepL (List.finRange 8) (fun n => sepL chunks (done c n.castSucc)) ∗ wts I c))).pre ?_ |>.post ?_)
  · iintro ⟨⟨Ht, Hf, Hw, Ho⟩, HO⟩
    isplitr [Ho]
    · isplitl [Ht]; · iexact Ht
      isplitl [Hf]; · iexact Hf
      isplitl [Hw] <;> iassumption
    iexact Ho
  · iintro ⟨⟨Hd, Hf, Hw, HO⟩, Ho⟩
    isplitl [Hf Ho HO]
    · isplitr [HO]
      · iapply (sepL_sep chunks (fun ci => flight I c 8 ci) fun ci => anyOwn (F := F) c (oC ci)).2
        isplitl [Hf]; · iexact Hf
        ihave Ho := (cut_o c).1 $$ Ho
        iapply (BIBase.Entails.of_eq (show bigSep Finset.univ (fun ci : Fin 6 => anyOwn (F := F) c (oC ci)) = sepL chunks fun ci => anyOwn (F := F) c (oC ci) from by
          rw [chunks_eq, sepL_fin]))
        iexact Ho
      iexact HO
    isplitl [Hd] <;> iassumption
  · iintro ⟨⟨H, HO⟩, Hd, Hw⟩
    ihave H := (sepL_sep chunks (fun ci => done (F := F) c 8 ci) fun ci => iprop(accAny (F := F) c ci ∗ owns (c : Thread nD τ) (oC ci) fullShare (outC I c ci))).1 $$ H
    icases H with ⟨Hd', H⟩
    ihave H := (sepL_sep chunks (fun ci => accAny (F := F) c ci) fun ci => (owns (c : Thread nD τ) (oC ci) fullShare (outC I c ci) : SP F)).1 $$ H
    icases H with ⟨Ha, Ho⟩
    isplitr [HO]
    · isplitl [Hd Hd']
      · iapply (ex_last fun n ci => done (F := F) c n ci).2
        isplitl [Hd]; · iexact Hd
        iexact Hd'
      isplitl [Hw]; · iexact Hw
      isplitl [Ha]; · iapply (cut_a c).2; iexact Ha
      iapply (join_o I c); iexact Ho
    unfold owR; iexact HO

/-! ## The whole body -/

/-- The rights to pay that device `c` is given, -/
def pays (c : Dev nD) : SP F :=
  iprop(sepL masks (fun j => tok0 (peer c j) .bar j) ∗ sepL masks (fun j => iprop(tok0 c (.bs j) 0 ∗ tok0 (peer c j) (.br j) 0))
    ∗ (bigSep Finset.univ fun p : Fin 9 × Fin 6 => iprop(tok0 c (.sn p) 0 ∗ tok0 (peer c (mask p.1 p.2)) (.rv p) 0)))
/-- and what it will be paid. -/
def creds (c : Dev nD) : SP F :=
  iprop(crd c .bar 7 ∗ sepL masks (fun j => crd c (.br j) NB) ∗ bigSep Finset.univ fun p : Fin 9 × Fin 6 => crd c (.rv p) (NC p))
/-- The scratch buffers. -/
def scratch (c : Dev nD) : SP F := iprop(anyBuf c cc0_scratch0 ∗ anyBuf c cc0_scratch1 ∗ anyBuf c cc0_scratch2 ∗ anyBuf c cc0_scratch3)

def bodyIn (c : Dev nD) : SP F :=
  iprop(owns (c : Thread nD τ) xM fullShare (I.x c) ∗ wts I c ∗ anyBuf c cc0_stg7_0 ∗ scratch c ∗ bigSep Finset.univ (at0 c) ∗ pays c ∗ creds c)
def bodyOut (c : Dev nD) : SP F :=
  iprop(owns (c : Thread nD τ) xM fullShare (I.x c) ∗ wts I c ∗ owns (c : Thread nD τ) oM fullShare (out I c) ∗ scratch c ∗ bigSep Finset.univ (zero c))

theorem bs_sep' {ι : Type} (Φ Ψ : ι → SP F) [Fintype ι] :
    iprop(bigSep Finset.univ Φ ∗ bigSep Finset.univ Ψ) ⊢ bigSep Finset.univ fun i => iprop(Φ i ∗ Ψ i) :=
  BIBase.Entails.of_eq (bs_sep _ _ _).symm

/-- Every round's beginning, assembled. -/
theorem todo_all (c : Dev nD) :
    iprop((bigSep Finset.univ fun p : Fin 9 × Fin 6 => anyOwn c (sC p.1 p.2))
      ∗ (bigSep Finset.univ fun p : Fin 9 × Fin 6 => anyOwn (peer c (mask p.1 p.2)) (rC p.1 p.2))
      ∗ (bigSep Finset.univ fun p : Fin 9 × Fin 6 => at0 c (.sn p)) ∗ (bigSep Finset.univ fun p : Fin 9 × Fin 6 => at0 c (.rv p))
      ∗ (bigSep Finset.univ fun p : Fin 9 × Fin 6 => iprop(tok0 c (.sn p) 0 ∗ tok0 (peer c (mask p.1 p.2)) (.rv p) 0))
      ∗ (bigSep Finset.univ fun p : Fin 9 × Fin 6 => crd (F := F) c (.rv p) (NC p)))
      ⊢ iprop(sepL chunks (todo c 0) ∗ sepL (List.finRange 8) fun n => sepL chunks (todo c n.succ)) := by
  rw [← ex_first (fun n ci => todo (F := F) c n ci)]
  rw [← bs_sep, ← bs_sep, ← bs_sep, ← bs_sep, ← bs_sep]
  refine bs_mono fun p _ => ?_
  unfold todo
  iintro ⟨H1, H2, H3, H4, ⟨H5, H6⟩, H7⟩
  isplitl [H1]; · iexact H1
  isplitl [H2]; · iexact H2
  isplitl [H3]; · iexact H3
  isplitl [H4]; · iexact H4
  isplitl [H5]; · iexact H5
  isplitl [H6] <;> iassumption
/-- Every round's end, taken apart. -/
theorem done_all (c : Dev nD) :
    (bigSep Finset.univ fun p : Fin 9 × Fin 6 => done (F := F) c p.1 p.2)
      ⊢ iprop(anyBuf c cc0_scratch2 ∗ anyBuf c cc0_scratch3 ∗ (bigSep Finset.univ fun p => zero c (.sn p)) ∗ bigSep Finset.univ fun p => zero c (.rv p)) := by
  unfold done
  rw [bs_sep, bs_sep, bs_sep]
  iintro ⟨H1, H2, H3, H4⟩
  isplitl [H1]; · iapply (cut_s c).2; iexact H1
  isplitl [H2]; · iapply (cut_r c).2; iexact H2
  isplitl [H3] <;> iassumption

/-- A cell that nothing pays, closed. -/
theorem unused_spec (c : Dev nD) (k : CI) (hk : cDut k = ∅) : iprop(ctx I K ∗ at0 c k) ⊢ iprop(|={Set.univ}=> zero c k) := by
  iintro ⟨#HC, Ha⟩
  iapply (Rounds.cell_close ER (Rd I) (Set.mem_univ (K (c, k))) (fun h => h) (R := 0) (fun r _ => by
    cases r with
    | zero => exact (duties_cell I c k).trans hk
    | succ r => exact duties_later I (cell c k) (r + 1) (by omega)))
  isplitr; · iapply (ctx_inv I K c k); iexact HC
  iexact Ha

theorem trL_fupd {C : SP F} [BI.Persistent C] {c : Dev nD} {l : List (P F)} {A B B' : SP F} (h : trL C c l A B) (hB : iprop(C ∗ B) ⊢ iprop(|={Set.univ}=> B')) :
    trL C c l A B' := by
  unfold trL
  refine BIBase.Entails.trans ?_ (wp_fupd _ _ _ _ _)
  iintro ⟨#HC, HA⟩
  iapply (show iprop(C ∗ wpc c (Pipeline.chain l) (fun _ => B)) ⊢ _ from (wp_frame_l _ _ _).trans (wp_mono _ _ _ fun _ => hB))
  isplitr; · iexact HC
  iapply (show iprop(C ∗ A) ⊢ _ from h)
  isplitr; · iexact HC
  iexact HA

theorem steps_eq (c : Dev nD) : (steps c : List (P F)) = (masks.map (sigStep c) ++ [barStep, copyStep c])
    ++ ((masks.map (bcastStep c) ++ chunks.flatMap (startSeq c))
    ++ (((([0, 1, 2, 3, 4, 5, 6, 7] : List (Fin 8)).flatMap fun n => chunks.flatMap (exchSeq c n)) ++ chunks.flatMap lastSeq) ++ masks.map (waitBcastStep c))) := by
  unfold steps; simp only [List.append_assoc]

set_option maxHeartbeats 1000000 in
/-- The body: from its inputs to its result, everything else as it was. -/
theorem steps_spec (c : Dev nD) : trL (ctx I K) c (steps c) iprop(bodyIn I c ∗ ow c (owed₀ c)) iprop(bodyOut I c ∗ ow c []) := by
  rw [steps_eq]
  refine trL_append (((gather_spec I K c).frame
      (R := iprop(wts I c ∗ anyBuf c cc0_stg7_0 ∗ anyBuf c cc0_scratch1 ∗ anyBuf c cc0_scratch2
        ∗ (at0 c (.bs 0) ∗ sepL masks (fun j => at0 c (.bs j))) ∗ (at0 c (.br 0) ∗ sepL masks (fun j => at0 c (.br j)))
        ∗ (bigSep Finset.univ fun p : Fin 9 × Fin 6 => at0 c (.sn p)) ∗ (bigSep Finset.univ fun p : Fin 9 × Fin 6 => at0 c (.rv p))
        ∗ sepL masks (fun j => iprop(tok0 c (.bs j) 0 ∗ tok0 (peer c j) (.br j) 0))
        ∗ (bigSep Finset.univ fun p : Fin 9 × Fin 6 => iprop(tok0 c (.sn p) 0 ∗ tok0 (peer c (mask p.1 p.2)) (.rv p) 0))
        ∗ sepL masks (fun j => crd c (.br j) NB) ∗ bigSep Finset.univ fun p : Fin 9 × Fin 6 => crd c (.rv p) (NC p)))).pre ?_)
    (trL_append (((scatter_spec I K c).frame
        (R := iprop(zero c .bar ∗ owns (c : Thread nD τ) xM fullShare (I.x c) ∗ anyBuf c cc0_stg7_0
          ∗ (at0 c (.bs 0) ∗ sepL masks (fun j => at0 c (.bs j))) ∗ at0 c (.br 0)
          ∗ sepL (List.finRange 8) fun n => sepL chunks (todo c n.succ)))).pre ?_)
      (trL_append (((exchange_spec I K c).frame
          (R := iprop(zero c .bar ∗ owns (c : Thread nD τ) xM fullShare (I.x c)
            ∗ (at0 c (.bs 0) ∗ sepL masks (fun j => at0 c (.bs j))) ∗ at0 c (.br 0)
            ∗ sepL masks (fun j => crd c (.bs j) NB) ∗ fpts I c c (shareTok fullShare 8 0)
            ∗ sepL masks (fun j => zero c (.br j)) ∗ sepL masks (fun j => toks I c (peer c j)) ∗ gath I c 8))).pre ?_)
        (trL_fupd (((waitBcasts_spec I K c).frame
          (R := iprop(zero c .bar ∗ owns (c : Thread nD τ) xM fullShare (I.x c) ∗ at0 c (.bs 0) ∗ at0 c (.br 0)
            ∗ fpts I c c (shareTok fullShare 8 0)
            ∗ sepL masks (fun j => zero c (.br j)) ∗ sepL masks (fun j => toks I c (peer c j)) ∗ gath I c 8
            ∗ (bigSep Finset.univ fun p : Fin 9 × Fin 6 => done c p.1 p.2) ∗ wts I c ∗ anyBuf c cc0_scratch1
            ∗ owns (c : Thread nD τ) oM fullShare (out I c)))).pre ?_) ?_)))
  · unfold bodyIn scratch pays creds
    rw [ci_split (at0 c), mask_split fun j => at0 (F := F) c (.bs j), mask_split fun j => at0 (F := F) c (.br j)]
    iintro ⟨⟨Hx, Hw, Ho, ⟨H0, H1, H2, H3⟩, ⟨Ha, ⟨Hbs, Hbr⟩, Hsn, Hrv⟩, ⟨Ht1, Ht2, Ht3⟩, Hc1, Hc2, Hc3⟩, HO⟩
    isplitl [Ht1 H0 H3 Hc1 Ha Hx HO]
    · isplitr [HO]
      · isplitl [Ht1]; · iexact Ht1
        isplitl [H0]; · iexact H0
        isplitl [H3]; · iexact H3
        isplitl [Hc1]; · iexact Hc1
        isplitl [Ha] <;> iassumption
      iexact HO
    isplitl [Hw]; · iexact Hw
    isplitl [Ho]; · iexact Ho
    isplitl [H1]; · iexact H1
    isplitl [H2]; · iexact H2
    isplitl [Hbs]; · iexact Hbs
    isplitl [Hbr]; · iexact Hbr
    isplitl [Hsn]; · iexact Hsn
    isplitl [Hrv]; · iexact Hrv
    isplitl [Ht2]; · iexact Ht2
    isplitl [Ht3]; · iexact Ht3
    isplitl [Hc2] <;> iassumption
  · iintro ⟨⟨⟨Hz, Hp, Hr, Hx, Hf⟩, HO⟩, Hw, Ho, H1, H2, Hbs, ⟨Hbr0, Hbr⟩, Hsn, Hrv, Ht2, Ht3, Hc2, Hc3⟩
    ihave Hs := (cut_s c).1 $$ H2
    ihave Ht := (todo_all (F := F) c) $$ [Hs Hr Hsn Hrv Ht3 Hc3]
    · isplitl [Hs]; · iexact Hs
      isplitl [Hr]; · iexact Hr
      isplitl [Hsn]; · iexact Hsn
      isplitl [Hrv]; · iexact Hrv
      isplitl [Ht3] <;> iassumption
    icases Ht with ⟨Hd, Ht⟩
    isplitl [Hf Hp Ht2 Hc2 Hbr H1 Hd Hw HO]
    · isplitr [HO]
      · isplitl [Hf]; · iexact Hf
        isplitl [Hp]; · iexact Hp
        isplitl [Ht2]; · iexact Ht2
        isplitl [Hc2]; · iexact Hc2
        isplitl [Hbr]; · iexact Hbr
        isplitl [H1]; · iexact H1
        isplitl [Hd] <;> iassumption
      iexact HO
    isplitl [Hz]; · iexact Hz
    isplitl [Hx]; · iexact Hx
    isplitl [Ho]; · iexact Ho
    isplitl [Hbs]; · iexact Hbs
    isplitl [Hbr0] <;> iassumption
  · iintro ⟨⟨⟨Hc, Hf0, Hzb, Htk, Hfl, Hg, Hw⟩, HO⟩, Hz, Hx, Ho, Hbs, Hbr0, Ht⟩
    isplitl [Ht Hfl Hw Ho HO]
    · isplitr [HO]
      · isplitl [Ht]; · iexact Ht
        isplitl [Hfl]; · iexact Hfl
        isplitl [Hw] <;> iassumption
      iexact HO
    isplitl [Hz]; · iexact Hz
    isplitl [Hx]; · iexact Hx
    isplitl [Hbs]; · iexact Hbs
    isplitl [Hbr0]; · iexact Hbr0
    isplitl [Hc]; · iexact Hc
    isplitl [Hf0]; · iexact Hf0
    isplitl [Hzb]; · iexact Hzb
    isplitl [Htk] <;> iassumption
  · iintro ⟨⟨⟨Hd, Hw, Ha, Ho⟩, HO⟩, Hz, Hx, ⟨Hbs0, Hbs⟩, Hbr0, Hc, Hf0, Hzb, Htk, Hg⟩
    isplitl [Hc Hbs HO]
    · isplitr [HO]
      · iapply (sepL_sep masks (fun j => crd (F := F) c (.bs j) NB) fun j => at0 (F := F) c (.bs j)).2
        isplitl [Hc] <;> iassumption
      iexact HO
    isplitl [Hz]; · iexact Hz
    isplitl [Hx]; · iexact Hx
    isplitl [Hbs0]; · iexact Hbs0
    isplitl [Hbr0]; · iexact Hbr0
    isplitl [Hf0]; · iexact Hf0
    isplitl [Hzb]; · iexact Hzb
    isplitl [Htk]; · iexact Htk
    isplitl [Hg]; · iexact Hg
    isplitl [Hd]; · iexact Hd
    isplitl [Hw]; · iexact Hw
    isplitl [Ha] <;> iassumption
  · iintro ⟨#HC, ⟨H, HO⟩, Hz, Hx, Hbs0, Hbr0, Hf0, Hzb, Htk, Hg, Hd, Hw, Ha, Ho⟩
    ihave H := (sepL_sep masks (fun j => zero (F := F) c (.bs j)) fun j => fpts I c c (shareTok fullShare 8 j)).1 $$ H
    icases H with ⟨Hzs, Hfs⟩
    ihave Hd := (done_all (F := F) c) $$ Hd
    icases Hd with ⟨Hs, Hr, Hzn, Hzv⟩
    imod (unused_spec I K c (.bs 0) rfl) $$ [Hbs0] with Hzs0
    · isplitr; · iexact HC
      iexact Hbs0
    imod (unused_spec I K c (.br 0) rfl) $$ [Hbr0] with Hzb0
    · isplitr; · iexact HC
      iexact Hbr0
    imodintro
    isplitr [HO]
    · unfold bodyOut scratch
      rw [ci_split (zero c), mask_split fun j => zero (F := F) c (.bs j), mask_split fun j => zero (F := F) c (.br j)]
      isplitl [Hx]; · iexact Hx
      isplitl [Hw]; · iexact Hw
      isplitl [Ho]; · iexact Ho
      isplitl [Hg Hf0 Hfs Htk Ha Hs Hr]
      · isplitl [Hg Hf0 Hfs Htk]
        · iapply (join_f I c)
          isplitl [Hg]; · iexact Hg
          iapply (BIBase.Entails.of_eq (dev_masks c fun b => toks I c b).symm)
          isplitr [Htk]
          · iapply (show _ ⊢ toks I c c from BIBase.Entails.of_eq (mask_split fun j => fpts I c c (shareTok fullShare 8 j)).symm)
            isplitl [Hf0] <;> iassumption
          iexact Htk
        isplitl [Ha]; · iexact Ha
        isplitl [Hs] <;> iassumption
      isplitl [Hz]; · iexact Hz
      isplitl [Hzs0 Hzs Hzb0 Hzb]
      · isplitl [Hzs0 Hzs]
        · isplitl [Hzs0] <;> iassumption
        isplitl [Hzb0] <;> iassumption
      isplitl [Hzn] <;> iassumption
    iexact HO

end Cert.Mlp

end
-- ==== Proof.Ghost.lean ====
/-
What the launch hands each device: the cells' invariants, its positions, the rights to pay and the credit.
-/
module

public import proofs.«01_k».proof.Proof.Body

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] (I : Ins F) (K : Dev nD × CI → ℕ)

/-! ## The cells -/

theorem csem_inj : Function.Injective csem := fun a b h => by
  have := dec_csem a
  rw [h, dec_csem] at this
  exact (Option.some.inj this).symm
theorem cell_inj {c c' : Dev nD} {k k' : CI} (h : cell c k = cell c' k') : c = c' ∧ k = k' :=
  ⟨congrArg (fun g : GSem nD τ sig => g.1.1) h, csem_inj (congrArg Prod.snd h)⟩

def allCells : Finset (GSem nD τ sig) :=
  Finset.univ.map ⟨fun p : Dev nD × CI => cell p.1 p.2, fun a b h => Prod.ext (cell_inj h).1 (cell_inj h).2⟩
def allToks : Finset (GSem nD τ sig × ℕ × Fin 8) :=
  Finset.univ.map ⟨fun p : (Dev nD × CI) × Fin 8 => (cell p.1.1 p.1.2, 0, p.2), fun a b h => by
    have h1 := cell_inj (congrArg Prod.fst h)
    exact Prod.ext (Prod.ext h1.1 h1.2) (congrArg (fun x : GSem nD τ sig × ℕ × Fin 8 => x.2.2) h)⟩

/-- The launch's element: the pipeline's part and the exchange's. -/
def u₀ : UU := (initOf (Pipeline.cells cfgs cellOf_inj) (Pipeline.launchToks cfgs cellOf_inj), initOf allCells allToks)

/-- The rights to pay a device's own cells that are used. -/
def minted (c : Dev nD) : SP F :=
  iprop((bigSep Finset.univ fun j : Fin 8 => tok0 c .bar j) ∗ (bigSep Finset.univ fun j : Fin 8 => tok0 c (.bs j) 0)
    ∗ (bigSep Finset.univ fun j : Fin 8 => tok0 c (.br j) 0)
    ∗ (bigSep Finset.univ fun p : Fin 9 × Fin 6 => tok0 c (.sn p) 0) ∗ (bigSep Finset.univ fun p : Fin 9 × Fin 6 => tok0 c (.rv p) 0))

theorem minted_of (c : Dev nD) : (bigSep Finset.univ fun k : CI => bigSep Finset.univ fun d : Fin 8 => (tok0 c k d : SP F)) ⊢ minted c := by
  rw [ci_split]
  have h (k : CI) (d : Fin 8) : (bigSep Finset.univ fun d : Fin 8 => (tok0 c k d : SP F)) ⊢ tok0 c k d :=
    bigSep_elim (Finset.mem_univ d)
  unfold minted
  iintro ⟨H1, ⟨H2, H3⟩, H4, H5⟩
  isplitl [H1]; · iexact H1
  isplitl [H2]; · iapply (bs_mono (s := Finset.univ) fun (j : Fin 8) _ => h (.bs j) 0); iexact H2
  isplitl [H3]; · iapply (bs_mono (s := Finset.univ) fun (j : Fin 8) _ => h (.br j) 0); iexact H3
  isplitl [H4]; · iapply (bs_mono (s := Finset.univ) fun (j : Fin 9 × Fin 6) _ => h (.sn j) 0); iexact H4
  iapply (bs_mono (s := Finset.univ) fun (j : Fin 9 × Fin 6) _ => h (.rv j) 0); iexact H5

/-- What the launch's element is for device `c`. -/
def G (c : Dev nD) : SP F :=
  iprop((bigSep Finset.univ fun k : CI => roundState ER (Rd I) (cell c k) 0)
    ∗ (bigSep Finset.univ fun k : CI => iprop(at0 c k ∗ reached ER (cell c k) 0)) ∗ minted c)

theorem fund_all : BI.own (ER (initOf allCells allToks)) ⊢ (|==> bigSep Finset.univ (G I) : SP F) := by
  have hX (Φ : GSem nD τ sig → SP F) : bigSep allCells Φ = bigSep Finset.univ fun c : Dev nD => bigSep Finset.univ fun k : CI => Φ (cell c k) := by
    unfold allCells; rw [Idealize.SL.BI.bigSep_map, Idealize.SL.BI.bigSep_univ_prod]; rfl
  have hT : bigSep allToks (fun x => (dutyTok ER x.1 x.2.1 x.2.2 : SP F))
      = bigSep Finset.univ fun c : Dev nD => bigSep Finset.univ fun k : CI => bigSep Finset.univ fun d : Fin 8 => tok0 c k d := by
    unfold allToks; rw [Idealize.SL.BI.bigSep_map, Idealize.SL.BI.bigSep_univ_prod, Idealize.SL.BI.bigSep_univ_prod]; rfl
  iintro HX
  imod (Rounds.fund ER (Rd I) allCells allToks) $$ HX with ⟨Hst, Hr, Hat, Htok⟩
  imodintro
  ihave Hst' := (BIBase.Entails.of_eq (hX fun g => roundState ER (Rd I) g 0)) $$ Hst
  ihave Hat' := (BIBase.Entails.of_eq (hX fun g => atPos ER g 0 ∅ 0)) $$ Hat
  ihave Hr' := (BIBase.Entails.of_eq (hX fun g => reached ER g 0)) $$ Hr
  ihave Htok' := (BIBase.Entails.of_eq hT) $$ Htok
  ihave Htok'' := (bs_mono (s := Finset.univ) fun (c : Dev nD) _ => minted_of (F := F) c) $$ Htok'
  unfold G; simp only [bs_sep]
  isplitl [Hst']; · iexact Hst'
  isplitl [Hat' Hr']
  · isplitl [Hat'] <;> iassumption
  iexact Htok''

/-! ## The rights to pay, dealt out -/

/-- Rights along a mask, moved to the device at its other end. -/
theorem around {X : Type} [Fintype X] (f : X → Fin 8) (T : Dev nD → X → SP F) :
    (bigSep Finset.univ fun c : Dev nD => bigSep Finset.univ fun x : X => T c x)
      = bigSep Finset.univ fun c : Dev nD => bigSep Finset.univ fun x : X => T (peer c (f x)) x := by
  rw [← Idealize.SL.BI.bigSep_univ_prod fun p : Dev nD × X => T p.1 p.2,
    ← Idealize.SL.BI.bigSep_univ_prod fun p : Dev nD × X => T (peer p.1 (f p.2)) p.2]
  exact Idealize.SL.BI.bigSep_univ_equiv (⟨fun p => (peer p.1 (f p.2), p.2), fun p => (peer p.1 (f p.2), p.2),
    fun p => Prod.ext (peer_peer _ _) rfl, fun p => Prod.ext (peer_peer _ _) rfl⟩ : Dev nD × X ≃ Dev nD × X) fun p : Dev nD × X => T p.1 p.2

theorem dealt : (bigSep Finset.univ fun c : Dev nD => (minted c : SP F)) ⊢ bigSep Finset.univ fun c : Dev nD => (pays c : SP F) := by
  unfold minted
  rw [bs_sep, bs_sep, bs_sep, bs_sep, around (fun j : Fin 8 => j) fun c j => (tok0 c .bar j : SP F),
    around (fun j : Fin 8 => j) fun c j => (tok0 c (.br j) 0 : SP F),
    around (fun p : Fin 9 × Fin 6 => mask p.1 p.2) fun c p => (tok0 c (.rv p) 0 : SP F), ← bs_sep, ← bs_sep, ← bs_sep, ← bs_sep]
  refine bs_mono fun c _ => ?_
  unfold pays
  rw [mask_split, mask_split fun j => (tok0 c (.bs j) 0 : SP F), mask_split fun j => (tok0 (peer c j) (.br j) 0 : SP F), bs_sep]
  iintro ⟨⟨-, H1⟩, ⟨-, H2⟩, ⟨-, H3⟩, H4, H5⟩
  isplitl [H1]; · iexact H1
  isplitl [H2 H3]
  · iapply (sepL_sep masks (fun j => (tok0 c (.bs j) 0 : SP F)) fun j => tok0 (peer c j) (.br j) 0).2
    isplitl [H2] <;> iassumption
  isplitl [H4] <;> iassumption

/-! ## The semaphores at zero, and the invariants -/

/-- The kernel's own semaphores. -/
abbrev OI : Type := (Fin 8 ⊕ Fin 8) ⊕ ((Fin 9 × Fin 6) ⊕ (Fin 9 × Fin 6))
abbrev osem (k : OI) : SemLoc sig := csem (.inr k)

theorem unscoped_eq (c : Dev nD) : (unscopedSems0 c : SP F) = zero c .bar := by
  unfold unscopedSems0; rw [bigSep_eq_bigSepL_of_eq [SemLoc.reg barS] (by decide) (by decide)]; rfl
theorem sems_eq (c : Dev nD) :
    (bigSep Finset.univ fun k : CI => (zero c k : SP F)) = iprop(unscopedSems0 c ∗ Pipeline.ownSems0 osem c) := by
  rw [unscoped_eq, Idealize.SL.BI.bigSep_univ_sum]
  have h : (bigSep Finset.univ fun u : Unit => (zero c (.inl u) : SP F)) = zero c .bar := bigSep_singleton
  rw [h]; rfl

theorem core_alloc (c : Dev nD) :
    iprop(Pipeline.ownSems0 osem c ∗ unscopedSems0 c ∗ G I c)
      ⊢ (|={Set.univ}=> iprop((bigSep Finset.univ fun k : CI => iprop(∃ κ : ℕ, cellInv ER (Rd I) κ (cell c k)))
          ∗ (bigSep Finset.univ fun k : CI => iprop(at0 c k ∗ reached ER (cell c k) 0)) ∗ minted c) : SP F) := by
  unfold G
  iintro ⟨Hos, Hus, Hst, Hat, Htok⟩
  ihave Hv := (BIBase.Entails.of_eq (sems_eq (F := F) c).symm) $$ [Hos Hus]
  · isplitl [Hus] <;> iassumption
  imod (show iprop((bigSep Finset.univ fun k : CI => zero c k) ∗ bigSep Finset.univ fun k : CI => roundState ER (Rd I) (cell c k) 0)
      ⊢ (|={Set.univ}=> bigSep Finset.univ fun k : CI => iprop(∃ κ : ℕ, cellInv ER (Rd I) κ (cell c k)) : SP F) from by
        rw [← bs_sep]
        exact (bs_mono fun k _ => (Rounds.body_intro ER (Rd I) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- Every cell's record, at some names. -/
def recs : SP F := bigSep Finset.univ (recAt I K)
instance recs_persistent : BI.Persistent (recs I K) := by unfold recs; infer_instance

/-- What device `c` then has. -/
def G' (c : Dev nD) : SP F := iprop(∃ K, recs I K ∗ bigSep Finset.univ (at0 c) ∗ pays c)

theorem with_persistent {X : Type} [Fintype X] [DecidableEq X] {R : SP F} [BI.Persistent R] {Φ Ψ : X → SP F}
    (h : ∀ i, iprop(R ∗ Φ i) ⊢ Ψ i) : iprop(R ∗ bigSep Finset.univ Φ) ⊢ bigSep Finset.univ Ψ :=
  (sep_mono_left (BI.bigSep_of_persistent Finset.univ R)).trans (by rw [← bs_sep]; exact bs_mono fun i _ => h i)

theorem regroup :
    (bigSep Finset.univ fun c : Dev nD => iprop((bigSep Finset.univ fun k : CI => iprop(∃ κ : ℕ, cellInv ER (Rd I) κ (cell c k)))
          ∗ (bigSep Finset.univ fun k : CI => iprop(at0 c k ∗ reached ER (cell c k) 0)) ∗ minted c) : SP F)
      ⊢ bigSep Finset.univ (G' I) := by
  have hI := Idealize.SL.BI.bigSep_univ_prod fun p : Dev nD × CI => (iprop(∃ κ : ℕ, cellInv ER (Rd I) κ (cell p.1 p.2)) : SP F)
  have hR := Idealize.SL.BI.bigSep_univ_prod fun p : Dev nD × CI => (reached ER (cell p.1 p.2) 0 : SP F)
  rw [bs_sep, bs_sep, ← hI]
  simp only [bs_sep]
  rw [← hR]
  iintro ⟨HI, ⟨Hat, #HR⟩, Htok⟩
  ihave HK := (BI.bigSep_exists_pi Finset.univ (fun (p : Dev nD × CI) (κ : ℕ) => (cellInv ER (Rd I) κ (cell p.1 p.2) : SP F))) $$ HI
  icases HK with ⟨%K, #HI⟩
  ihave Hp := (dealt (F := F)) $$ Htok
  iapply (with_persistent (F := F) (R := recs I K) (Φ := fun c : Dev nD => iprop(bigSep Finset.univ (at0 c) ∗ pays c)) (Ψ := G' I) fun c => by
    unfold G'
    iintro ⟨HA, HB⟩
    iexists K
    isplitl [HA] <;> iassumption)
  isplitr
  · unfold recs recAt; rw [bs_sep]
    isplitl; · iexact HI
    iexact HR
  · rw [bs_sep]
    isplitl [Hat]; · iexact Hat
    iexact Hp

theorem glob : (bigSep Finset.univ fun c : Dev nD => iprop(Pipeline.ownSems0 osem c ∗ unscopedSems0 c ∗ G I c) : SP F)
    ⊢ |={Set.univ}=> bigSep Finset.univ (G' I) :=
  ((bs_mono fun c _ => core_alloc I c).trans (bigSep_fupd _ _)).trans (BI.fupd_mono (regroup I))

/-! ## The credit -/

theorem tot_append (l l' : Owed) (g : GSem nD τ sig) : tot (l ++ l') g () = tot l g () + tot l' g () := by
  induction l with
  | nil => exact (Nat.zero_add _).symm
  | cons x l ih =>
    show (tot (l ++ l') + tallyAt (cell x.1.1 x.1.2) () x.2) g () = (tot l + tallyAt (cell x.1.1 x.1.2) () x.2) g () + tot l' g ()
    rw [Pi.add_apply, Finsupp.add_apply, ih, Pi.add_apply, Finsupp.add_apply]; omega
theorem tot_at (l : Owed) (c : Dev nD) (k : CI) : tot l (cell c k) () = (l.map fun x => if (c, k) = x.1 then x.2 else 0).sum := by
  induction l with
  | nil => rfl
  | cons x l ih =>
    unfold tot
    rw [Pi.add_apply, Finsupp.add_apply, tallyAt_apply, ih, List.map_cons, List.sum_cons, Nat.add_comm]
    congr 1
    refine if_congr ⟨fun h => Prod.ext (cell_inj h.1).1 (cell_inj h.1).2, fun h => ⟨by rw [← h], rfl⟩⟩ rfl rfl
theorem tot_away (l : Owed) (c : Dev nD) (k : CI) (h : ∀ x ∈ l, x.1.2 ≠ k) : tot l (cell c k) () = 0 := by
  by_contra hn
  obtain ⟨x, hx, e⟩ := tot_pos (Nat.pos_of_ne_zero hn)
  exact h x hx (cell_inj e).2.symm

/-- Of payments along masks to cells all different, one cell gets its one payment. -/
theorem tot_one {X : Type} [DecidableEq X] (l : List X) (hl : l.Nodup) (f : X → Fin 8) (g : X → CI) (hg : Function.Injective g) (N : X → ℕ)
    (c : Dev nD) (x : X) (hx : x ∈ l) : ∑ d : Dev nD, tot (l.map fun a => ((peer d (f a), g a), N a)) (cell c (g x)) () = N x := by
  have h (d : Dev nD) : tot (l.map fun a => ((peer d (f a), g a), N a)) (cell c (g x)) () = if d = peer c (f x) then N x else 0 := by
    rw [tot_at, List.map_map, ← List.sum_toFinset _ hl, Finset.sum_eq_single x]
    · refine if_congr ⟨fun h => ?_, fun h => ?_⟩ rfl rfl
      · have h1 : c = peer d (f x) := congrArg Prod.fst h
        rw [h1, peer_peer]
      · rw [h]; exact Prod.ext (peer_peer _ _).symm rfl
    · exact fun a _ ha => if_neg fun h => ha (hg (congrArg Prod.snd h)).symm
    · exact fun h => absurd (List.mem_toFinset.mpr hx) h
  rw [Finset.sum_congr rfl fun d _ => h d, Finset.sum_ite_eq' Finset.univ, if_pos (Finset.mem_univ _)]

def O₀ (c : Dev nD) : CellTallies nD τ sig Unit := tot (owed₀ c)
/-- What a cell is paid by all the devices. -/
def due (c : Dev nD) (k : CI) : ℕ := ∑ d : Dev nD, O₀ d (cell c k) ()

theorem due_eq (c : Dev nD) (k : CI) : due c k = (∑ d : Dev nD, tot (masks.map (barX d)) (cell c k) ())
    + ((∑ d : Dev nD, tot (masks.map (brX d)) (cell c k) ()) + ∑ d : Dev nD, tot (sends.map (rvX d)) (cell c k) ()) := by
  unfold due O₀ owed₀
  rw [← Finset.sum_add_distrib, ← Finset.sum_add_distrib]
  exact Finset.sum_congr rfl fun d _ => by rw [tot_append, tot_append]
theorem bar_away (c : Dev nD) (k : CI) (h : CI.bar ≠ k) : (∑ d : Dev nD, tot (masks.map (barX d)) (cell c k) ()) = 0 :=
  Finset.sum_eq_zero fun d _ => tot_away _ c k fun x hx => by obtain ⟨j, -, rfl⟩ := List.mem_map.mp hx; exact h
theorem br_away (c : Dev nD) (k : CI) (h : ∀ j, CI.br j ≠ k) : (∑ d : Dev nD, tot (masks.map (brX d)) (cell c k) ()) = 0 :=
  Finset.sum_eq_zero fun d _ => tot_away _ c k fun x hx => by obtain ⟨j, -, rfl⟩ := List.mem_map.mp hx; exact h j
theorem rv_away (c : Dev nD) (k : CI) (h : ∀ p, CI.rv p ≠ k) : (∑ d : Dev nD, tot (sends.map (rvX d)) (cell c k) ()) = 0 :=
  Finset.sum_eq_zero fun d _ => tot_away _ c k fun x hx => by obtain ⟨j, -, rfl⟩ := List.mem_map.mp hx; exact h j

theorem bar_count : ∀ c : Dev nD, (∑ d : Dev nD, ((masks.map (barX d)).map fun x => if (c, CI.bar) = x.1 then x.2 else 0).sum) = 7 := by
  decide +kernel
theorem due_bar (c : Dev nD) : due c .bar = 7 := by
  rw [due_eq, br_away c _ (fun j h => by cases h), rv_away c _ (fun j h => by cases h), Finset.sum_congr rfl fun d _ => tot_at _ c .bar, bar_count]
theorem due_br (c : Dev nD) (j : Fin 8) (hj : j ∈ masks) : due c (.br j) = NB := by
  rw [due_eq, bar_away c _ (fun h => by cases h), rv_away c _ (fun j h => by cases h)]
  have := tot_one masks (by decide) (fun j => j) CI.br (fun a b h => by cases h; rfl) (fun _ => NB) c j hj
  unfold brX; rw [this]; omega
theorem sends_all : sends.Nodup ∧ ∀ p, p ∈ sends := by decide +kernel
theorem due_rv (c : Dev nD) (p : Fin 9 × Fin 6) : due c (.rv p) = NC p := by
  rw [due_eq, bar_away c _ (fun h => by cases h), br_away c _ (fun j h => by cases h)]
  have := tot_one sends sends_all.1 (fun p => mask p.1 p.2) CI.rv (fun a b h => by cases h; rfl) NC c p (sends_all.2 p)
  unfold rvX; rw [this]; omega

theorem launch_cell (c : Dev nD) (k : CI) :
    tallyOn (cell c k) (launchCredit (Pipeline.owing O₀) 0 (cell c k)) = (tallyAt (cell c k) () (due c k) : CellTallies nD τ sig Unit) := by
  unfold tallyAt; refine congrArg _ (Finsupp.ext fun u => ?_); cases u
  rw [Pipeline.launchCredit_owing, Finsupp.single_eq_same]; rfl

theorem creds_intro (c : Dev nD) : (Pipeline.launchCred O₀ c : SP F) ⊢ creds c := by
  have h : (Pipeline.launchCred O₀ c : SP F) ⊢ bigSep Finset.univ fun k : CI => crd c k (due c k) := by
    unfold Pipeline.launchCred
    refine (Idealize.SL.BI.bigSep_subset (Finset.subset_univ (Finset.univ.map ⟨csem, csem_inj⟩))).trans ?_
    rw [Idealize.SL.BI.bigSep_map]
    exact bs_mono fun k _ => BIBase.Entails.of_eq (congrArg cred (launch_cell c k))
  refine h.trans ?_
  rw [ci_split, due_bar, mask_split fun j => (crd c (.br j) (due c (.br j)) : SP F),
    sepL_congr masks (fun j => (crd c (.br j) (due c (.br j)) : SP F)) (fun j => crd c (.br j) NB) fun j hj => by rw [due_br c j hj]]
  simp only [due_rv]
  unfold creds
  iintro ⟨H1, ⟨-, -, H2⟩, -, H3⟩
  isplitl [H1]; · iexact H1
  isplitl [H2] <;> iassumption

end Cert.Mlp

end
-- ==== Proof.Launch.lean ====
/-
The kernel's run: from any memory, every device's result is `out` of what the arguments held.
-/
module

public import proofs.«01_k».proof.Proof.Ghost
public import proofs.«01_k».proof.Proof.Gen.KernelIdeal.Points
public import Idealize.ShloMosaic.Lib.Pipeline.ValueKit
public import Idealize.ShloMosaic.Lib.Pipeline.CollectiveSegs

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)

variable {F : FTy → Type} [FloatOps F] (m : (ℓ : Loc nD τ sig) → Buf (Elt F) ℓ) (ρ : Dev nD → PrngReg)

/-- The initial state. -/
def s₀ : MemSt nD τ sig (Elt F) := ⟨m, fun _ => 0, ρ⟩

/-- What the arguments hold. -/
def ins : Ins F where
  x c := m ((c : Thread nD τ).loc main_arg0)
  wi k c := match k with
    | 0 => m ((c : Thread nD τ).loc main_arg1)
    | 1 => m ((c : Thread nD τ).loc main_arg2)
    | 2 => m ((c : Thread nD τ).loc main_arg3)
  wo k c := match k with
    | 0 => m ((c : Thread nD τ).loc main_arg4)
    | 1 => m ((c : Thread nD τ).loc main_arg5)
    | 2 => m ((c : Thread nD τ).loc main_arg6)

/-! ## The pipeline's proof data -/

/-- What device `c`'s body starts from, -/
def start (c : Dev nD) : SP F := iprop(∃ K, ctx (ins m) K ∗ bigSep Finset.univ (at0 c) ∗ pays c ∗ creds c)
def Φ₀ (c : Dev nD) : SP F := iprop(start m c ∗ scratch c)
/-- and ends with. -/
def Φ₁ (c : Dev nD) : SP F := iprop(scratch c ∗ bigSep Finset.univ (zero c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m).x c
    | ⟨1, _⟩ => (ins m).wi 0 c
    | ⟨2, _⟩ => (ins m).wo 0 c
    | ⟨3, _⟩ => (ins m).wi 1 c
    | ⟨4, _⟩ => (ins m).wo 1 c
    | ⟨5, _⟩ => (ins m).wi 2 c
    | ⟨6, _⟩ => (ins m).wo 2 c
    | ⟨7, _⟩ => out (ins m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

/-- A window over a whole array: its block is the array, index by index. -/
theorem emb_whole {s : Shape} {e : EltTy} {cs : CoreSpace} (arr : Memref sig .tc .hbm s e) (b₁ b₂ : Bool)
    (stage : Memref sig .tc (.core cs) ⟨s.rank, s.size⟩ e) (sem : DmaSem sig) (harr : arr.IsWhole) (hstage : stage.IsWhole)
    (t : Fin Pipeline.Grid.none.N) (i : s.Idx) :
    ((Pipeline.Window.whole arr b₁ b₂ stage sem harr hstage).rect t).emb i = i := by
  funext a
  apply Fin.ext
  show 0 * s.size a + 1 * (i a).val = (i a).val
  omega

theorem before0 (c : Dev nD) (d) : (dats m ρ 0 c).before (0 : Fin 8) t0_0 d = (ins m).x c := by
  unfold Dat.before; rw [if_pos (fetch0_0 t0_0)]
  exact funext fun i => congrArg (m ((c : Thread nD τ).loc main_arg0)) (emb_whole _ _ _ _ _ (Memref.isWhole_whole _) (hstage0_0 0) t0_0 i)
theorem before1 (c : Dev nD) (d) : (dats m ρ 0 c).before (1 : Fin 8) t0_0 d = (ins m).wi 0 c := by
  unfold Dat.before; rw [if_pos (fetch0_1 t0_0)]
  exact funext fun i => congrArg (m ((c : Thread nD τ).loc main_arg1)) (emb_whole _ _ _ _ _ (Memref.isWhole_whole _) (hstage0_1 0) t0_0 i)
theorem before2 (c : Dev nD) (d) : (dats m ρ 0 c).before (2 : Fin 8) t0_0 d = (ins m).wo 0 c := by
  unfold Dat.before; rw [if_pos (fetch0_2 t0_0)]
  exact funext fun i => congrArg (m ((c : Thread nD τ).loc main_arg4)) (emb_whole _ _ _ _ _ (Memref.isWhole_whole _) (hstage0_2 0) t0_0 i)
theorem before3 (c : Dev nD) (d) : (dats m ρ 0 c).before (3 : Fin 8) t0_0 d = (ins m).wi 1 c := by
  unfold Dat.before; rw [if_pos (fetch0_3 t0_0)]
  exact funext fun i => congrArg (m ((c : Thread nD τ).loc main_arg2)) (emb_whole _ _ _ _ _ (Memref.isWhole_whole _) (hstage0_3 0) t0_0 i)
theorem before4 (c : Dev nD) (d) : (dats m ρ 0 c).before (4 : Fin 8) t0_0 d = (ins m).wo 1 c := by
  unfold Dat.before; rw [if_pos (fetch0_4 t0_0)]
  exact funext fun i => congrArg (m ((c : Thread nD τ).loc main_arg5)) (emb_whole _ _ _ _ _ (Memref.isWhole_whole _) (hstage0_4 0) t0_0 i)
theorem before5 (c : Dev nD) (d) : (dats m ρ 0 c).before (5 : Fin 8) t0_0 d = (ins m).wi 2 c := by
  unfold Dat.before; rw [if_pos (fetch0_5 t0_0)]
  exact funext fun i => congrArg (m ((c : Thread nD τ).loc main_arg3)) (emb_whole _ _ _ _ _ (Memref.isWhole_whole _) (hstage0_5 0) t0_0 i)
theorem before6 (c : Dev nD) (d) : (dats m ρ 0 c).before (6 : Fin 8) t0_0 d = (ins m).wo 2 c := by
  unfold Dat.before; rw [if_pos (fetch0_6 t0_0)]
  exact funext fun i => congrArg (m ((c : Thread nD τ).loc main_arg6)) (emb_whole _ _ _ _ _ (Memref.isWhole_whole _) (hstage0_6 0) t0_0 i)

/-! ## The body's obligation -/

abbrev stg (c : Dev nD) (b : Ref sig .tc) (X : b.ty.Contents (Elt F)) : SP F := owns (c : Thread nD τ) (Memref.whole b) fullShare X

set_option maxRecDepth 8000 in
def pre (c : Dev nD) : SP F :=
  iprop(Φ₀ m c ∗ (dats m ρ 0 c).owesAt () t0_0.castSucc
    ∗ (∃ d, stg c cc0_stg0_0 ((dats m ρ 0 c).before (0 : Fin 8) t0_0 d)) ∗ (∃ d, stg c cc0_stg1_0 ((dats m ρ 0 c).before (1 : Fin 8) t0_0 d))
    ∗ (∃ d, stg c cc0_stg2_0 ((dats m ρ 0 c).before (2 : Fin 8) t0_0 d)) ∗ (∃ d, stg c cc0_stg3_0 ((dats m ρ 0 c).before (3 : Fin 8) t0_0 d))
    ∗ (∃ d, stg c cc0_stg4_0 ((dats m ρ 0 c).before (4 : Fin 8) t0_0 d)) ∗ (∃ d, stg c cc0_stg5_0 ((dats m ρ 0 c).before (5 : Fin 8) t0_0 d))
    ∗ (∃ d, stg c cc0_stg6_0 ((dats m ρ 0 c).before (6 : Fin 8) t0_0 d)) ∗ (∃ d, stg c cc0_stg7_0 ((dats m ρ 0 c).before (7 : Fin 8) t0_0 d)))

def post (c : Dev nD) : SP F :=
  iprop(Φ₁ c ∗ (dats m ρ 0 c).owesAt () t0_0.succ ∗ stg c cc0_stg0_0 ((ins m).x c) ∗ stg c cc0_stg1_0 ((ins m).wi 0 c)
    ∗ stg c cc0_stg2_0 ((ins m).wo 0 c) ∗ stg c cc0_stg3_0 ((ins m).wi 1 c) ∗ stg c cc0_stg4_0 ((ins m).wo 1 c)
    ∗ stg c cc0_stg5_0 ((ins m).wi 2 c) ∗ stg c cc0_stg6_0 ((ins m).wo 2 c) ∗ stg c cc0_stg7_0 (out (ins m) c))

theorem wts_eq (I : Ins F) (c : Dev nD) : wts I c = iprop((stg c cc0_stg1_0 (I.wi 0 c) ∗ stg c cc0_stg2_0 (I.wo 0 c))
    ∗ (stg c cc0_stg3_0 (I.wi 1 c) ∗ stg c cc0_stg4_0 (I.wo 1 c)) ∗ (stg c cc0_stg5_0 (I.wi 2 c) ∗ stg c cc0_stg6_0 (I.wo 2 c))) := by
  unfold wts
  exact bigSep_univ_eq_bigSepL ([0, 1, 2] : List (Fin 3)) (by decide) (by decide) _

theorem stg_any (c : Dev nD) (b : Ref sig .tc) (X : b.ty.Contents (Elt F)) : stg c b X ⊢ anyBuf c b := by
  unfold anyBuf stg
  rw [owns_whole_eq]
  iintro ⟨%f, -, H⟩
  iexists f; iexact H

theorem body_run (c : Dev nD) : pre m ρ c ⊢ wpc c (body : P F) (fun _ => post m ρ c) := by
  have hs (K : Dev nD × CI → ℕ) := steps_spec (ins m) K c
  unfold trL at hs
  rw [body_eq]
  unfold wpc
  rw [wp_deviceId]
  unfold pre Φ₀ start
  simp only [before0, before1, before2, before3, before4, before5, before6]
  iintro ⟨⟨⟨%K, HC, Hat, Hp, Hc⟩, Hs⟩, Ho, ⟨%_, H0⟩, ⟨%_, H1⟩, ⟨%_, H2⟩, ⟨%_, H3⟩, ⟨%_, H4⟩, ⟨%_, H5⟩, ⟨%_, H6⟩, ⟨%_, H7⟩⟩
  unfold Dat.owesAt Pipeline.owesWithin
  icases Ho with ⟨%W, -, HO⟩
  iapply ((hs K).trans (wp_mono _ _ _ fun _ => (?_ : _ ⊢ post m ρ c)))
  · unfold post Φ₁ bodyOut Dat.owesAt Pipeline.owesWithin
    rw [wts_eq]
    iintro ⟨⟨Hx, ⟨⟨H1, H2⟩, ⟨H3, H4⟩, H5, H6⟩, H7, Hs, Hz⟩, HO⟩
    isplitl [Hs Hz]; · isplitl [Hs] <;> iassumption
    isplitl [HO]
    · unfold ow
      icases HO with ⟨%W, HO⟩
      iexists W
      isplitr; · ipureintro; exact fun _ _ => Or.inl trivial
      iexact HO
    isplitl [Hx]; · iexact Hx
    isplitl [H1]; · iexact H1
    isplitl [H2]; · iexact H2
    isplitl [H3]; · iexact H3
    isplitl [H4]; · iexact H4
    isplitl [H5]; · iexact H5
    isplitl [H6] <;> iassumption
  isplitl [HC]; · iexact HC
  isplitr [HO]
  · unfold bodyIn
    rw [wts_eq]
    isplitl [H0]; · iexact H0
    isplitl [H1 H2 H3 H4 H5 H6]
    · isplitl [H1 H2]; · isplitl [H1] <;> iassumption
      isplitl [H3 H4]; · isplitl [H3] <;> iassumption
      isplitl [H5] <;> iassumption
    isplitl [H7]; · iapply (stg_any (F := F) c cc0_stg7_0); iexact H7
    isplitl [Hs]; · iexact Hs
    isplitl [Hat]; · iexact Hat
    isplitl [Hp] <;> iassumption
  unfold ow
  iexists W; iexact HO

set_option maxRecDepth 8000 in
theorem body_obligation (c : Dev nD) : BodyObligation (dats m ρ 0 c) (defs₀ (F := F)) 𝒱₀ () Set.univ := fun t => by
  rw [show t = t0_0 from fin_N0 t]
  rw [show ∀ Φ : Fin cfg0.W → SP F, bigSep Finset.univ Φ = _ from bigSep_W0, show ∀ Φ : Fin cfg0.W → SP F, bigSep Finset.univ Φ = _ from bigSep_W0]
  have hb : bodyAt0 (F := F) t0_0 = body := rfl
  show _ ⊢ wp frame (wpE (defs₀ (F := F)) 𝒱₀ (c : Thread nD τ) none) Set.univ (bodyAt0 t0_0) _
  rw [hb]
  refine BIBase.Entails.trans (?_ : _ ⊢ pre m ρ c) ((body_run m ρ c).trans (wp_mono _ _ _ fun _ => ?_))
  · exact BIBase.Entails.rfl
  · unfold post
    exact BIBase.Entails.rfl

/-! ## The launch's other conditions -/

theorem ownSemFacts : Pipeline.OwnSemFacts cfg0.spec osem where
  isScoped := by decide +kernel
  inj := fun a b h => Sum.inr.inj (csem_inj h)
  disj := by decide +kernel

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (ins m) c)
      ⊢ (|={Set.univ}=> iprop(start m c ∗ emp) : SP F) := by
  iintro ⟨-, Hlev, Hcr, -, HG⟩
  ihave Hc := (creds_intro (F := F) c) $$ Hcr
  imodintro
  unfold start G' ctx recs
  icases HG with ⟨%K, HI, Hat, Hp⟩
  isplitl
  · iexists K
    isplitl [HI Hlev]; · isplitl [HI] <;> iassumption
    isplitl [Hat]; · iexact Hat
    isplitl [Hp] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch anyBuf
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [show bigSep Finset.univ (zero (F := F) c) = _ from sems_eq (F := F) c]
  unfold scratch anyBuf
  iintro ⟨Hr, Hu, Ho⟩
  isplitl [Hu]; · iexact Hu
  isplitl [Ho] <;> iassumption

theorem owed₀_lev (c : Dev nD) : ∀ x ∈ owed₀ c, 0 < cLev x.1.2 := by
  intro x hx
  rcases List.mem_append.mp hx with h | h
  · obtain ⟨j, -, rfl⟩ := List.mem_map.mp h; exact Nat.one_pos
  rcases List.mem_append.mp h with h | h
  · obtain ⟨j, -, rfl⟩ := List.mem_map.mp h; exact Nat.two_pos
  · obtain ⟨p, -, rfl⟩ := List.mem_map.mp h; exact Nat.add_pos_left (by decide) _

theorem lv_stage : ∀ (w : Fin 8) (s : Fin (cfg0.win w).nbuf), dec (.dma ((cfg0.win w).sem s)) = none := by decide +kernel

theorem waits (c : Dev nD) : (levAts L lv : SP F) ⊢ Pipeline.cellsWaits cfgs (dats m ρ) () 0 c :=
  Pipeline.cellsWaits_intro cfgs (dats m ρ) () 0 c fun w s t => by
    have h0 : lv ((c : Thread nD τ), .dma ((cfg0.win w).sem s)) () ≤ 0 := by unfold lv; rw [lv_stage w s]; exact Nat.le_refl 0
    rcases t with ⟨_ | _, ht⟩
    · exact mayWait c _ (owed₀ c) 0 h0 (owed₀_lev c)
    · exact mayWait c _ [] 0 h0 (fun x hx => by cases hx)

/-! ## The run -/

def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (ins m)) (G' := G' (ins m)) (u₀ := u₀)
    (hu₀ := by
      unfold u₀
      iintro Hu
      ihave H := (ownU_pair _ _) $$ Hu
      icases H with ⟨HP, HX⟩
      imod (fund_all (ins m)) $$ HX with HG
      imodintro
      isplitl [HP] <;> iassumption)
    (hglob := glob (ins m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem whole7 : (cfg0.win (7 : Fin 8)).WholeAt t0_0 := by decide +kernel

/-- The kernel terminates on every schedule, leaves its arguments as they were and every semaphore at zero, and each
    device's result is `out` of what the arguments held. -/
theorem run (m : (ℓ : Loc nD τ sig) → Buf (Elt F) ℓ) (ρ : Dev nD → PrngReg) :
    θ_run defs (onTc (τ := τ) (main (F := F))) ⟨m, fun _ => 0, ρ⟩ fun r =>
      ((∀ c : Dev nD, r.2.mem ((c : Thread nD τ).loc main_v1) = out (ins m) c)
      ∧ ∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6))
      ∧ r.2.sem = fun _ => 0 :=
  (θ_run defs _ _).mono (fun r h => by
    have hin (c : Dev nD) (w : Fin cfg0.W) (hw : (cfg0.win w).isOut = false) :
        r.2.mem ((cfg0.win w).arr.view.loc (c : Thread nD τ)) = (s₀ m ρ).mem ((cfg0.win w).arr.view.loc (c : Thread nD τ)) :=
      (h.1 c w).trans ((dats m ρ 0 c).arrAt_in w hw _)
    refine ⟨⟨fun c => (h.1 c (7 : Fin 8)).trans ?_, fun c => ⟨hin c (0 : Fin 8) rfl, hin c (1 : Fin 8) rfl, hin c (3 : Fin 8) rfl, hin c (5 : Fin 8) rfl,
      hin c (2 : Fin 8) rfl, hin c (4 : Fin 8) rfl, hin c (6 : Fin 8) rfl⟩⟩, h.2⟩
    exact Pipeline.Dat.arrAt_eq_of_after_last (dats m ρ 0 c) (7 : Fin 8) t0_0 whole7 (out (ins m) c) fun j => rfl) (run_main m ρ)

end Cert.Mlp

end
-- ==== Proof.Algebra.lean ====
/-
What the kernel computes, over the extended reals.

Three exchange rounds add up the eight devices' shares of a layer on every device (`exchange_sum`), and the eight shares
add up to the whole layer, since the hidden units are dealt out to the devices in blocks of 256 (`shares_sum`). So each
chunk of each layer is the reference's layer on the chunk's rows, and the result is the reference's (`out_eq`).
-/
module

public import proofs.«01_k».proof.Proof.Split
public import proofs.«01_k».proof.Proof.Gen.ReferenceIdeal.Run
public import Idealize.ShloMosaic.Lib.MatmulPlain
public import Idealize.ShloMosaic.Lib.StackMember
public import Idealize.ShloMosaic.Lib.Layout
public import Idealize.ShloMosaic.Lib.Pipeline.Value

@[expose] public section

noncomputable section

namespace Cert.Mlp

open Cert.KernelIdeal Cert.KernelIdeal.Gen
open Idealize.ShloMosaic Idealize.ShloMosaic.ValueIdx
open scoped BigOperators

/-! ## The exchange adds up the devices -/

/-- One round of an exchange: a device's value and its peer's, added. -/
def pairUp (j : Fin 8) (f : Dev nD → EReal) (c : Dev nD) : EReal := f c + f (peer c j)

/-- The devices whose values three rounds bring to `c`, in the order they are added, -/
def reached (g : Fin 3) (c : Dev nD) : List (Fin 8) :=
  let two (b : Dev nD) : List (Fin 8) := [b, peer b (sched g 0)]
  let four (b : Dev nD) : List (Fin 8) := two b ++ two (peer b (sched g 1))
  four c ++ four (peer c (sched g 2))

/-- which are all eight, each once. -/
theorem reached_perm (g : Fin 3) (c : Dev nD) : (reached g c).Perm (List.finRange 8) := by revert g c; decide

/-- Three rounds of the exchange leave the sum over the devices. -/
theorem exchange_sum (g : Fin 3) (f : Dev nD → EReal) (c : Dev nD) :
    pairUp (sched g 2) (pairUp (sched g 1) (pairUp (sched g 0) f)) c = ∑ d, f d := by
  have h : (∑ d : Fin 8, f d) = ((reached g c).map f).sum := by
    rw [Fin.sum_univ_def]
    exact (((reached_perm g c).map f).sum_eq).symm
  refine Eq.trans ?_ h.symm
  simp only [pairUp, reached, List.map_append, List.map_cons, List.map_nil, List.sum_append, List.sum_cons, List.sum_nil, add_zero, add_assoc]

/-! ## A layer at an index -/

/-- A layer's value at a row `x` of its input and a column of its result, over `n` hidden units. -/
def unitSum {n : ℕ} (x : Fin 128 → EReal) (W : Fin 128 → Fin n → EReal) (V : Fin n → EReal) : EReal :=
  ∑ h, max (∑ e, x e * W e h) 0 * V h

theorem layer_apply (ci : Fin 6) (x : FVec Ideal (SC ci) .f32) (wi : Vec Ideal S128x256 .f32) (wo : Vec Ideal S256x128 .f32)
    (r : Fin (rows ci)) (l : Fin 128) :
    layer ci x wi wo (ix2 r l) = unitSum (fun e => x (ix2 r e)) (fun e h => wi (ix2 e h)) (fun h => wo (ix2 h l)) := by
  unfold layer
  rw [shapeCast_self, shapeCast_self]
  refine (Ideal.matmul_plain_apply (M := rows ci) (K := 256) (N := 128) none _ wo _ r l).trans ?_
  refine (congrArg (· + _) Ideal.ofBits_zero_f32).trans ((zero_add _).trans ?_)
  refine Finset.sum_congr rfl fun h _ => congrArg (· * _) ?_
  refine congrArg₂ max ?_ Ideal.ofBits_zero_f32
  refine (Ideal.matmul_plain_apply (M := rows ci) (K := 128) (N := 256) none x wi _ r h).trans ?_
  exact (congrArg (· + _) Ideal.ofBits_zero_f32).trans (zero_add _)

/-- The reference's layer. -/
def refLayer (X : FVec Ideal S1024x128 .f32) (W : FVec Ideal Cert.ReferenceIdeal.S128x2048 .f32) (V : FVec Ideal Cert.ReferenceIdeal.S2048x128 .f32) :
    FVec Ideal S1024x128 .f32 :=
  Host.dotGeneral Cert.ReferenceIdeal.dot_S1024x2048_S2048x128_S1024x128_1_0_0_1_n_n none
    (maximumf (Host.dotGeneral Cert.ReferenceIdeal.dot_S1024x128_S128x2048_S1024x2048_1_0_0_1_n_n none X W)
      (broadcastInDim Cert.ReferenceIdeal.S1024x2048 ![] Cert.ReferenceIdeal.Facts₀.bcast_S_S1024x2048 (constant Cert.ReferenceIdeal.S_ .f32 0x00000000#32))) V

theorem refLayer_apply (X : FVec Ideal S1024x128 .f32) (W : FVec Ideal Cert.ReferenceIdeal.S128x2048 .f32)
    (V : FVec Ideal Cert.ReferenceIdeal.S2048x128 .f32) (i : Fin 1024) (l : Fin 128) :
    refLayer X W V (ix2 i l) = unitSum (fun e => X (ix2 i e)) (fun e h => W (ix2 e h)) (fun h => V (ix2 h l)) := by
  unfold refLayer
  refine (StackMember.dotGeneral_plain_apply (m := 1024) (k := 2048) (n := 128) none _ V i l).trans ?_
  refine Finset.sum_congr rfl fun h _ => congrArg (· * _) ?_
  refine congrArg₂ max ?_ Ideal.ofBits_zero_f32
  exact StackMember.dotGeneral_plain_apply (m := 1024) (k := 128) (n := 2048) none X W i h

/-! ## The devices' shares add up to the layer -/

/-- Hidden unit `h` of device `d`'s block. -/
def unit (d : Dev nD) (h : Fin 256) : Fin 2048 := ⟨d.val * 256 + h.val, by have := d.isLt; have : d.val < 8 := this; omega⟩

/-- A sum over the hidden units, device by device. -/
theorem sum_units (f : Fin 2048 → EReal) : ∑ k, f k = ∑ d : Dev nD, ∑ h : Fin 256, f (unit d h) := by
  rw [← Fintype.sum_prod_type' (f := fun (d : Fin 8) (h : Fin 256) => f (unit d h))]
  refine (Equiv.sum_comp (finProdFinEquiv : Fin 8 × Fin 256 ≃ Fin (8 * 256)) f).symm.trans ?_
  refine Finset.sum_congr rfl fun p _ => congrArg f (Fin.ext ?_)
  show p.2.val + 256 * p.1.val = p.1.val * 256 + p.2.val
  omega

/-- The first weights' columns and the second's rows as the devices hold them. -/
structure Dealt (wi : Dev nD → Vec Ideal S128x256 .f32) (wo : Dev nD → Vec Ideal S256x128 .f32)
    (W : FVec Ideal Cert.ReferenceIdeal.S128x2048 .f32) (V : FVec Ideal Cert.ReferenceIdeal.S2048x128 .f32) : Prop where
  wi : ∀ d (e : Fin 128) (h : Fin 256), wi d (ix2 e h) = W (ix2 e (unit d h))
  wo : ∀ d (h : Fin 256) (l : Fin 128), wo d (ix2 h l) = V (ix2 (unit d h) l)

/-- On a row that is row `i` of `X`, the devices' shares add up to row `i` of the reference's layer. -/
theorem shares_sum {wi : Dev nD → Vec Ideal S128x256 .f32} {wo : Dev nD → Vec Ideal S256x128 .f32}
    {W : FVec Ideal Cert.ReferenceIdeal.S128x2048 .f32} {V : FVec Ideal Cert.ReferenceIdeal.S2048x128 .f32} (hd : Dealt wi wo W V)
    (ci : Fin 6) (x : Dev nD → FVec Ideal (SC ci) .f32) (X : FVec Ideal S1024x128 .f32) (r : Fin (rows ci)) (i : Fin 1024)
    (hx : ∀ d e, x d (ix2 r e) = X (ix2 i e)) (l : Fin 128) :
    ∑ d, layer ci (x d) (wi d) (wo d) (ix2 r l) = refLayer X W V (ix2 i l) := by
  rw [refLayer_apply]
  refine Eq.trans (Finset.sum_congr rfl fun d _ => ?_) (sum_units _).symm
  rw [layer_apply]
  simp only [unitSum, hx, hd.wi, hd.wo]

/-! ## The rounds of a layer -/

variable (I : Ins Ideal)

/-- What round `n` leaves: the own sum and the peer's, added. -/
def joined (n : Fin 9) (c : Dev nD) (ci : Fin 6) : FVec Ideal (SC ci) .f32 :=
  joinC ci (A I n c ci) (narrowC ci (A I n (peer c (mask n ci)) ci))

/-- At an index: narrowing changes nothing here. -/
theorem joined_apply (n : Fin 9) (c : Dev nD) (ci : Fin 6) (j : (SC ci).Idx) :
    joined I n c ci j = pairUp (mask n ci) (fun d => A I n d ci j) c := rfl

theorem A_join (n : Fin 8) (h : sub n.castSucc ≠ 2) (c : Dev nD) (ci : Fin 6) : A I n.succ c ci = joined I n.castSucc c ci := by
  rw [A_succ, nextVal, if_neg h]; rfl
theorem A_layer (n : Fin 8) (h : sub n.castSucc = 2) (c : Dev nD) (ci : Fin 6) :
    A I n.succ c ci = layer ci (joined I n.castSucc c ci) (I.wi (lay n.succ) c) (I.wo (lay n.succ) c) := by
  rw [A_succ, nextVal, if_pos h]; rfl

/-- The three rounds of a layer leave, on every device, the sum of what the devices brought to the first. -/
theorem joined_sum (n0 n1 n2 : Fin 9) (ci : Fin 6) (h0 : sub n0 = 0) (h1 : sub n1 = 1) (h2 : sub n2 = 2)
    (e1 : ∀ c, A I n1 c ci = joined I n0 c ci) (e2 : ∀ c, A I n2 c ci = joined I n1 c ci) (c : Dev nD) (j : (SC ci).Idx) :
    joined I n2 c ci j = ∑ d, A I n0 d ci j := by
  have a1 : (fun d => A I n1 d ci j) = pairUp (mask n0 ci) fun d => A I n0 d ci j :=
    funext fun d => by rw [e1, joined_apply]
  have a2 : (fun d => A I n2 d ci j) = pairUp (mask n1 ci) fun d => A I n1 d ci j :=
    funext fun d => by rw [e2, joined_apply]
  rw [joined_apply, a2, a1]
  simp only [mask, h0, h1, h2]
  exact exchange_sum (grp ci) _ c

/-- The rounds 0 to 2, -/
theorem joined_2 (ci : Fin 6) (c : Dev nD) (j : (SC ci).Idx) : joined I 2 c ci j = ∑ d, A I 0 d ci j :=
  joined_sum I 0 1 2 ci rfl rfl rfl (fun c => A_join I 0 (by decide) c ci) (fun c => A_join I 1 (by decide) c ci) c j
/-- 3 to 5, -/
theorem joined_5 (ci : Fin 6) (c : Dev nD) (j : (SC ci).Idx) : joined I 5 c ci j = ∑ d, A I 3 d ci j :=
  joined_sum I 3 4 5 ci rfl rfl rfl (fun c => A_join I 3 (by decide) c ci) (fun c => A_join I 4 (by decide) c ci) c j
/-- and 6 to 8. -/
theorem joined_8 (ci : Fin 6) (c : Dev nD) (j : (SC ci).Idx) : joined I 8 c ci j = ∑ d, A I 6 d ci j :=
  joined_sum I 6 7 8 ci rfl rfl rfl (fun c => A_join I 6 (by decide) c ci) (fun c => A_join I 7 (by decide) c ci) c j

/-! ## The result -/

/-- Row `r` of chunk `ci`, among all the rows. -/
def rowOf (ci : Fin 6) (r : Fin (rows ci)) : Fin 1024 :=
  ⟨roff ci + r.val, by
    have h : ∀ ci : Fin 6, roff ci + rows ci ≤ 1024 := by decide
    have := h ci; have := r.isLt; omega⟩

theorem emb_ix2 (ci : Fin 6) (r : Fin (rows ci)) (l : Fin 128) : (rX ci).emb (ix2 r l) = ix2 (rowOf ci r) l :=
  funext fun a => match a with
    | ⟨0, _⟩ => Fin.ext (X_row ci (ix2 r l))
    | ⟨1, _⟩ => Fin.ext (X_col ci (ix2 r l))

/-- The whole arrays the devices' inputs are blocks of. -/
structure Whole (X : FVec Ideal S1024x128 .f32) (W : Fin 3 → FVec Ideal Cert.ReferenceIdeal.S128x2048 .f32)
    (V : Fin 3 → FVec Ideal Cert.ReferenceIdeal.S2048x128 .f32) : Prop where
  x : ∀ d (p : Fin 128) (e : Fin 128), I.x d (ix2 p e) = X (ix2 ⟨d.val * 128 + p.val, by have : d.val < 8 := d.isLt; omega⟩ e)
  w : ∀ k, Dealt (I.wi k) (I.wo k) (W k) (V k)

variable {I}
variable {X : FVec Ideal S1024x128 .f32} {W : Fin 3 → FVec Ideal Cert.ReferenceIdeal.S128x2048 .f32}
  {V : Fin 3 → FVec Ideal Cert.ReferenceIdeal.S2048x128 .f32}

/-- A gathered chunk is the activations' rows. -/
theorem chunk_apply (h : Whole I X W V) (ci : Fin 6) (r : Fin (rows ci)) (e : Fin 128) :
    (extf .f32 (chunkX I ci) bitsLt_bf16_f32 : FVec Ideal (SC ci) .f32) (ix2 r e) = X (ix2 (rowOf ci r) e) := by
  have hX : ∀ i : Fin 1024, XF I (ix2 i e) = X (ix2 i e) := fun i => by
    have hn : ∀ v : Vec Ideal S128x128 .f32, narrow v = v := fun v => by
      unfold narrow; rw [shapeCast_self, shapeCast_self]; rfl
    unfold XF
    rw [hn]
    refine Eq.trans (congrArg _ (eq_ix2 _)) ((h.x _ _ _).trans (congrArg X (congrArg (ix2 · e) (Fin.ext ?_))))
    show i.val / 128 * 128 + i.val % 128 = i.val
    omega
  refine Eq.trans ?_ (hX (rowOf ci r))
  exact congrArg (XF I) (emb_ix2 ci r e)

/-- The first layer's rows, -/
theorem first_apply (h : Whole I X W V) (ci : Fin 6) (c : Dev nD) (r : Fin (rows ci)) (l : Fin 128) :
    joined I 2 c ci (ix2 r l) = refLayer X (W 0) (V 0) (ix2 (rowOf ci r) l) := by
  rw [joined_2]
  exact shares_sum (h.w 0) ci (fun _ => extf .f32 (chunkX I ci) bitsLt_bf16_f32) X r _ (fun _ e => chunk_apply h ci r e) l

/-- the second's, -/
theorem second_apply (h : Whole I X W V) (ci : Fin 6) (c : Dev nD) (r : Fin (rows ci)) (l : Fin 128) :
    joined I 5 c ci (ix2 r l) = refLayer (refLayer X (W 0) (V 0)) (W 1) (V 1) (ix2 (rowOf ci r) l) := by
  rw [joined_5]
  refine Eq.trans (Finset.sum_congr rfl fun d _ => congrFun (A_layer I 2 rfl d ci) _) ?_
  exact shares_sum (h.w 1) ci (fun d => joined I 2 d ci) _ r _ (fun d e => first_apply h ci d r e) l

/-- the third's. -/
theorem third_apply (h : Whole I X W V) (ci : Fin 6) (c : Dev nD) (r : Fin (rows ci)) (l : Fin 128) :
    joined I 8 c ci (ix2 r l) = refLayer (refLayer (refLayer X (W 0) (V 0)) (W 1) (V 1)) (W 2) (V 2) (ix2 (rowOf ci r) l) := by
  rw [joined_8]
  refine Eq.trans (Finset.sum_congr rfl fun d _ => congrFun (A_layer I 5 rfl d ci) _) ?_
  exact shares_sum (h.w 2) ci (fun d => joined I 5 d ci) _ r _ (fun d e => second_apply h ci d r e) l

/-- Every device's result is the reference's three layers. -/
theorem out_eq (h : Whole I X W V) (c : Dev nD) :
    out I c = refLayer (refLayer (refLayer X (W 0) (V 0)) (W 1) (V 1)) (W 2) (V 2) := by
  funext i
  obtain ⟨ci, j, rfl⟩ := X_exists i
  obtain ⟨r, l, rfl⟩ : ∃ (r : Fin (rows ci)) (l : Fin 128), j = ix2 r l := ⟨j 0, j 1, eq_ix2 j⟩
  rw [out_chunk, emb_ix2]
  exact third_apply h ci c r l

end Cert.Mlp

end
-- ==== Proof.lean ====
/-
The kernel returns, on every device, the three layers the reference computes: its frame, its idealization's, the
reference's, and the equality of the results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Twin
public import proofs.«01_k».proof.Proof.Launch
public import proofs.«01_k».proof.Proof.Algebra
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem

/-! ## The frames -/

/-- The idealized program returns with its arguments unchanged and every counter at zero. -/
theorem frame_ideal : Cert.quiescent_KernelIdeal (hKernelIdeal := Cert.KernelIdeal.Gen.facts) :=
  fun m g _ => (θ_run _ _ _).mono (fun r h => ⟨h.1.2, h.2⟩) (Cert.Mlp.run (F := Ideal) m g)

/-- So does the program itself: it is the same text. -/
theorem frame_kernel : Cert.quiescent_Kernel (hKernel := Cert.Kernel.Gen.facts) :=
  Cert.Mlp.same_prop.mpr fun m g _ => (θ_run _ _ _).mono (fun r h => ⟨h.1.2, h.2⟩) (Cert.Mlp.run (F := Bits) m g)

/-- And the reference, which has no counters. -/
theorem frame_reference : Cert.quiescent_ReferenceIdeal (hReferenceIdeal := Cert.ReferenceIdeal.Gen.facts) :=
  fun m g _ => (θ_run _ _ _).mono (fun r h => ⟨fun c => (h c).2, sem_eq_zero_of_no_sems (by decide) r.2⟩)
    (Cert.ReferenceIdeal.Value.run (F := Ideal) m g)

/-! ## The value -/

section Value

open Cert.Mlp

variable (m' : (ℓ : Loc Cert.ReferenceIdeal.nD Cert.ReferenceIdeal.τ Cert.ReferenceIdeal.sig) → Buf (Elt Ideal) ℓ)

/-- The reference's activations, -/
abbrev wholeX : FVec Ideal Cert.KernelIdeal.S1024x128 .f32 := m' ((0 : Dev Cert.ReferenceIdeal.nD).tc.loc Cert.ReferenceIdeal.main_arg0)
/-- its layers' first weights, -/
def wholeW : Fin 3 → FVec Ideal Cert.ReferenceIdeal.S128x2048 .f32
  | 0 => m' ((0 : Dev Cert.ReferenceIdeal.nD).tc.loc Cert.ReferenceIdeal.main_arg1)
  | 1 => m' ((0 : Dev Cert.ReferenceIdeal.nD).tc.loc Cert.ReferenceIdeal.main_arg2)
  | 2 => m' ((0 : Dev Cert.ReferenceIdeal.nD).tc.loc Cert.ReferenceIdeal.main_arg3)
/-- and second. -/
def wholeV : Fin 3 → FVec Ideal Cert.ReferenceIdeal.S2048x128 .f32
  | 0 => m' ((0 : Dev Cert.ReferenceIdeal.nD).tc.loc Cert.ReferenceIdeal.main_arg4)
  | 1 => m' ((0 : Dev Cert.ReferenceIdeal.nD).tc.loc Cert.ReferenceIdeal.main_arg5)
  | 2 => m' ((0 : Dev Cert.ReferenceIdeal.nD).tc.loc Cert.ReferenceIdeal.main_arg6)

/-- Blocks along the hidden units, at an index. -/
theorem dealt_of_blocks {wi : Dev Cert.KernelIdeal.nD → Vec Ideal Cert.KernelIdeal.S128x256 .f32}
    {wo : Dev Cert.KernelIdeal.nD → Vec Ideal Cert.KernelIdeal.S256x128 .f32}
    {W : FVec Ideal Cert.ReferenceIdeal.S128x2048 .f32} {V : FVec Ideal Cert.ReferenceIdeal.S2048x128 .f32}
    (hi : ∀ c, wi c = Layout.block ⟨2, ![128, 256]⟩ ⟨2, ![128, 2048]⟩ 1 8 c W)
    (ho : ∀ c, wo c = Layout.block ⟨2, ![256, 128]⟩ ⟨2, ![2048, 128]⟩ 0 8 c V) : Dealt wi wo W V where
  wi d e h := (congrFun (hi d) _).trans (congrArg W (funext fun a => match a with | ⟨0, _⟩ => Fin.ext rfl | ⟨1, _⟩ => Fin.ext rfl))
  wo d h l := (congrFun (ho d) _).trans (congrArg V (funext fun a => match a with | ⟨0, _⟩ => Fin.ext rfl | ⟨1, _⟩ => Fin.ext rfl))

end Value

/-- From blocks of the reference's arguments, every device's result is the reference's. -/
theorem algebraic : Cert.algebraic_KernelIdeal_ReferenceIdeal (hKernelIdeal := Cert.KernelIdeal.Gen.facts) (hReferenceIdeal := Cert.ReferenceIdeal.Gen.facts) := by
  intro m g m' g' _ hm
  have hw : Cert.Mlp.Whole (Cert.Mlp.ins m) (wholeX m') (wholeW m') (wholeV m') := by
    refine ⟨fun d p e => (congrFun (hm d).1 _).trans (congrArg (wholeX m') (funext fun a => match a with | ⟨0, _⟩ => Fin.ext rfl | ⟨1, _⟩ => Fin.ext rfl)),
      fun k => ?_⟩
    match k with
    | 0 => exact dealt_of_blocks (fun c => (hm c).2.1) (fun c => (hm c).2.2.2.2.1)
    | 1 => exact dealt_of_blocks (fun c => (hm c).2.2.1) (fun c => (hm c).2.2.2.2.2.1)
    | 2 => exact dealt_of_blocks (fun c => (hm c).2.2.2.1) (fun c => (hm c).2.2.2.2.2.2)
  refine ⟨_, (θ_run _ _ _).mono (fun r h c => ⟨(h.1.1 c).trans (Cert.Mlp.out_eq hw c), h.1.2 c⟩) (Cert.Mlp.run (F := Ideal) m g),
    (θ_run _ _ _).mono (fun r h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, algebraic⟩

end Cert.Proof

end
